-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S16x256x1024 : Shape := ⟨3, ![16, 256, 1024]⟩
abbrev S15x2 : Shape := ⟨2, ![15, 2]⟩
abbrev S_ : Shape := ⟨0, ![]⟩
abbrev S256x256 : Shape := ⟨2, ![256, 256]⟩
abbrev S256x1024 : Shape := ⟨2, ![256, 1024]⟩
abbrev S1x256x1024 : Shape := ⟨3, ![1, 256, 1024]⟩
abbrev S1x1 : Shape := ⟨2, ![1, 1]⟩
abbrev S1x128x1024 : Shape := ⟨3, ![1, 128, 1024]⟩
abbrev S128x1024 : Shape := ⟨2, ![128, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .fp8e5m2⟩
  | .local _ .vmem, ⟨2, _⟩ => ⟨S256x2048, .f32⟩
  | .local _ .vmem, ⟨3, _⟩ => ⟨S16x256x1024, .bf16⟩
  | .local _ .vmem, ⟨4, _⟩ => ⟨S16x256x1024, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 1 125 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) (c1_i32_10 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c1_i32_10
  let c32_i32 : BitVec 32 := 32#32
  let v14 : BitVec 32 := Scalar.addi v13 c32_i32
  let c16_i32_11 : BitVec 32 := 16#32
  let v15 : BitVec 32 := Scalar.remsi v14 c16_i32_11
  let c256_i32 : BitVec 32 := 256#32
  let v16 : BitVec 32 := Scalar.muli v15 c256_i32
  let v17 : Index := Scalar.indexCast v16
  let c0 : Index := 0#32
  ![v17.toNat, 0]
def k0_off2 (d0 : Dev nD) (c1_i32_16 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v27 : BitVec 32 := Scalar.addi v2 c1_i32_16
  let c32_i32_17 : BitVec 32 := 32#32
  let v28 : BitVec 32 := Scalar.addi v27 c32_i32_17
  let c16_i32_18 : BitVec 32 := 16#32
  let v29 : BitVec 32 := Scalar.remsi v28 c16_i32_18
  let c256_i32_19 : BitVec 32 := 256#32
  let v30 : BitVec 32 := Scalar.muli v29 c256_i32_19
  let v31 : Index := Scalar.indexCast v30
  let c0_20 : Index := 0#32
  ![v31.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_31 : BitVec 32 := 1#32
  let v41 : BitVec 32 := Scalar.muli v4 c1_i32_31
  let v42 : BitVec 32 := Scalar.addi c0_i32_32 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_43 : BitVec 32 := 1#32
  let v51 : BitVec 32 := Scalar.muli v7 c1_i32_43
  let v52 : BitVec 32 := Scalar.addi c0_i32_44 v51
  v52.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_55 : BitVec 32 := 1#32
  let v61 : BitVec 32 := Scalar.muli v4 c1_i32_55
  let v62 : BitVec 32 := Scalar.addi c0_i32_56 v61
  v62.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_66 : BitVec 32 := 1#32
  let v71 : BitVec 32 := Scalar.muli v7 c1_i32_66
  let v72 : BitVec 32 := Scalar.addi c0_i32_67 v71
  v72.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_114 : BitVec 32 := 1#32
  let v121 : BitVec 32 := Scalar.muli v4 c1_i32_114
  let v122 : BitVec 32 := Scalar.addi c0_i32_115 v121
  v122.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_144 : BitVec 32 := 1#32
  let v146 : BitVec 32 := Scalar.muli v7 c1_i32_144
  let v147 : BitVec 32 := Scalar.addi c0_i32_145 v146
  v147.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_173 : BitVec 32 := 1#32
  let v171 : BitVec 32 := Scalar.muli v4 c1_i32_173
  let v172 : BitVec 32 := Scalar.addi c0_i32_174 v171
  v172.toNat
def k0_dev10 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_203 : BitVec 32 := 1#32
  let v196 : BitVec 32 := Scalar.muli v7 c1_i32_203
  let v197 : BitVec 32 := Scalar.addi c0_i32_204 v196
  v197.toNat
def k0_off3 (d0 : Dev nD) (c0_i32_209 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v206 : BitVec 32 := Scalar.subi v2 c0_i32_209
  let c3_i32 : BitVec 32 := 3#32
  let v207 : BitVec 32 := Scalar.subi v206 c3_i32
  let c32_i32_210 : BitVec 32 := 32#32
  let v208 : BitVec 32 := Scalar.addi v207 c32_i32_210
  let c16_i32_211 : BitVec 32 := 16#32
  let v209 : BitVec 32 := Scalar.remsi v208 c16_i32_211
  let c256_i32_212 : BitVec 32 := 256#32
  let v210 : BitVec 32 := Scalar.muli v209 c256_i32_212
  let v211 : Index := Scalar.indexCast v210
  let c0_213 : Index := 0#32
  ![v211.toNat, 0]
def k0_off4 (d0 : Dev nD) (c0_i32_217 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v218 : BitVec 32 := Scalar.addi v2 c0_i32_217
  let c3_i32_218 : BitVec 32 := 3#32
  let v219 : BitVec 32 := Scalar.addi v218 c3_i32_218
  let c32_i32_219 : BitVec 32 := 32#32
  let v220 : BitVec 32 := Scalar.addi v219 c32_i32_219
  let c16_i32_220 : BitVec 32 := 16#32
  let v221 : BitVec 32 := Scalar.remsi v220 c16_i32_220
  let c256_i32_221 : BitVec 32 := 256#32
  let v222 : BitVec 32 := Scalar.muli v221 c256_i32_221
  let v223 : Index := Scalar.indexCast v222
  let c0_222 : Index := 0#32
  ![v223.toNat, 0]
def k0_dev11 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_249 : BitVec 32 := 1#32
  let v245 : BitVec 32 := Scalar.muli v4 c1_i32_249
  let v246 : BitVec 32 := Scalar.addi c0_i32_250 v245
  v246.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_279 : BitVec 32 := 1#32
  let v270 : BitVec 32 := Scalar.muli v7 c1_i32_279
  let v271 : BitVec 32 := Scalar.addi c0_i32_280 v270
  v271.toNat
def k0_dev13 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_309 : BitVec 32 := 1#32
  let v295 : BitVec 32 := Scalar.muli v4 c1_i32_309
  let v296 : BitVec 32 := Scalar.addi c0_i32_310 v295
  v296.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_339 : BitVec 32 := 1#32
  let v320 : BitVec 32 := Scalar.muli v7 c1_i32_339
  let v321 : BitVec 32 := Scalar.addi c0_i32_340 v320
  v321.toNat
def k0_dev15 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_386 : BitVec 32 := 1#32
  let v369 : BitVec 32 := Scalar.muli v4 c1_i32_386
  let v370 : BitVec 32 := Scalar.addi c0_i32_387 v369
  v370.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_416 : BitVec 32 := 1#32
  let v394 : BitVec 32 := Scalar.muli v7 c1_i32_416
  let v395 : BitVec 32 := Scalar.addi c0_i32_417 v394
  v395.toNat
def k0_dev17 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_446 : BitVec 32 := 1#32
  let v419 : BitVec 32 := Scalar.muli v4 c1_i32_446
  let v420 : BitVec 32 := Scalar.addi c0_i32_447 v419
  v420.toNat
def k0_dev18 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_476 : BitVec 32 := 1#32
  let v444 : BitVec 32 := Scalar.muli v7 c1_i32_476
  let v445 : BitVec 32 := Scalar.addi c0_i32_477 v444
  v445.toNat
def k0_dev19 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_522 : BitVec 32 := 1#32
  let v493 : BitVec 32 := Scalar.muli v4 c1_i32_522
  let v494 : BitVec 32 := Scalar.addi c0_i32_523 v493
  v494.toNat
def k0_dev20 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_552 : BitVec 32 := 1#32
  let v518 : BitVec 32 := Scalar.muli v7 c1_i32_552
  let v519 : BitVec 32 := Scalar.addi c0_i32_553 v518
  v519.toNat
def k0_dev21 (d0 : Dev nD) : Nat :=
  let c0_i32_583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_582 : BitVec 32 := 1#32
  let v543 : BitVec 32 := Scalar.muli v4 c1_i32_582
  let v544 : BitVec 32 := Scalar.addi c0_i32_583 v543
  v544.toNat
def k0_dev22 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_612 : BitVec 32 := 1#32
  let v568 : BitVec 32 := Scalar.muli v7 c1_i32_612
  let v569 : BitVec 32 := Scalar.addi c0_i32_613 v568
  v569.toNat
def k0_dev23 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_658 : BitVec 32 := 1#32
  let v617 : BitVec 32 := Scalar.muli v4 c1_i32_658
  let v618 : BitVec 32 := Scalar.addi c0_i32_659 v617
  v618.toNat
def k0_dev24 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_688 : BitVec 32 := 1#32
  let v642 : BitVec 32 := Scalar.muli v7 c1_i32_688
  let v643 : BitVec 32 := Scalar.addi c0_i32_689 v642
  v643.toNat
def k0_dev25 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_718 : BitVec 32 := 1#32
  let v667 : BitVec 32 := Scalar.muli v4 c1_i32_718
  let v668 : BitVec 32 := Scalar.addi c0_i32_719 v667
  v668.toNat
def k0_dev26 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_748 : BitVec 32 := 1#32
  let v692 : BitVec 32 := Scalar.muli v7 c1_i32_748
  let v693 : BitVec 32 := Scalar.addi c0_i32_749 v692
  v693.toNat
def k0_dev27 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_794 : BitVec 32 := 1#32
  let v741 : BitVec 32 := Scalar.muli v4 c1_i32_794
  let v742 : BitVec 32 := Scalar.addi c0_i32_795 v741
  v742.toNat
def k0_dev28 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_824 : BitVec 32 := 1#32
  let v766 : BitVec 32 := Scalar.muli v7 c1_i32_824
  let v767 : BitVec 32 := Scalar.addi c0_i32_825 v766
  v767.toNat
def k0_dev29 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_854 : BitVec 32 := 1#32
  let v791 : BitVec 32 := Scalar.muli v4 c1_i32_854
  let v792 : BitVec 32 := Scalar.addi c0_i32_855 v791
  v792.toNat
def k0_dev30 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_884 : BitVec 32 := 1#32
  let v816 : BitVec 32 := Scalar.muli v7 c1_i32_884
  let v817 : BitVec 32 := Scalar.addi c0_i32_885 v816
  v817.toNat
def k0_dev31 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_930 : BitVec 32 := 1#32
  let v865 : BitVec 32 := Scalar.muli v4 c1_i32_930
  let v866 : BitVec 32 := Scalar.addi c0_i32_931 v865
  v866.toNat
def k0_dev32 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_960 : BitVec 32 := 1#32
  let v890 : BitVec 32 := Scalar.muli v7 c1_i32_960
  let v891 : BitVec 32 := Scalar.addi c0_i32_961 v890
  v891.toNat
def k0_dev33 (d0 : Dev nD) : Nat :=
  let c0_i32_991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_990 : BitVec 32 := 1#32
  let v915 : BitVec 32 := Scalar.muli v4 c1_i32_990
  let v916 : BitVec 32 := Scalar.addi c0_i32_991 v915
  v916.toNat
def k0_dev34 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1020 : BitVec 32 := 1#32
  let v940 : BitVec 32 := Scalar.muli v7 c1_i32_1020
  let v941 : BitVec 32 := Scalar.addi c0_i32_1021 v940
  v941.toNat
def k0_dev35 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1066 : BitVec 32 := 1#32
  let v989 : BitVec 32 := Scalar.muli v4 c1_i32_1066
  let v990 : BitVec 32 := Scalar.addi c0_i32_1067 v989
  v990.toNat
def k0_dev36 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1096 : BitVec 32 := 1#32
  let v1014 : BitVec 32 := Scalar.muli v7 c1_i32_1096
  let v1015 : BitVec 32 := Scalar.addi c0_i32_1097 v1014
  v1015.toNat
def k0_dev37 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1126 : BitVec 32 := 1#32
  let v1039 : BitVec 32 := Scalar.muli v4 c1_i32_1126
  let v1040 : BitVec 32 := Scalar.addi c0_i32_1127 v1039
  v1040.toNat
def k0_dev38 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1156 : BitVec 32 := 1#32
  let v1064 : BitVec 32 := Scalar.muli v7 c1_i32_1156
  let v1065 : BitVec 32 := Scalar.addi c0_i32_1157 v1064
  v1065.toNat
def k0_dev39 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1202 : BitVec 32 := 1#32
  let v1113 : BitVec 32 := Scalar.muli v4 c1_i32_1202
  let v1114 : BitVec 32 := Scalar.addi c0_i32_1203 v1113
  v1114.toNat
def k0_dev40 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1232 : BitVec 32 := 1#32
  let v1138 : BitVec 32 := Scalar.muli v7 c1_i32_1232
  let v1139 : BitVec 32 := Scalar.addi c0_i32_1233 v1138
  v1139.toNat
def k0_dev41 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1262 : BitVec 32 := 1#32
  let v1163 : BitVec 32 := Scalar.muli v4 c1_i32_1262
  let v1164 : BitVec 32 := Scalar.addi c0_i32_1263 v1163
  v1164.toNat
def k0_dev42 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1292 : BitVec 32 := 1#32
  let v1188 : BitVec 32 := Scalar.muli v7 c1_i32_1292
  let v1189 : BitVec 32 := Scalar.addi c0_i32_1293 v1188
  v1189.toNat
def k0_dev43 (d0 : Dev nD) : Nat :=
  let c0_i32_1339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1338 : BitVec 32 := 1#32
  let v1237 : BitVec 32 := Scalar.muli v4 c1_i32_1338
  let v1238 : BitVec 32 := Scalar.addi c0_i32_1339 v1237
  v1238.toNat
def k0_dev44 (d0 : Dev nD) : Nat :=
  let c0_i32_1369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1368 : BitVec 32 := 1#32
  let v1262 : BitVec 32 := Scalar.muli v7 c1_i32_1368
  let v1263 : BitVec 32 := Scalar.addi c0_i32_1369 v1262
  v1263.toNat
def k0_dev45 (d0 : Dev nD) : Nat :=
  let c0_i32_1399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1398 : BitVec 32 := 1#32
  let v1287 : BitVec 32 := Scalar.muli v4 c1_i32_1398
  let v1288 : BitVec 32 := Scalar.addi c0_i32_1399 v1287
  v1288.toNat
def k0_dev46 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1428 : BitVec 32 := 1#32
  let v1312 : BitVec 32 := Scalar.muli v7 c1_i32_1428
  let v1313 : BitVec 32 := Scalar.addi c0_i32_1429 v1312
  v1313.toNat
def k0_dev47 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1474 : BitVec 32 := 1#32
  let v1361 : BitVec 32 := Scalar.muli v4 c1_i32_1474
  let v1362 : BitVec 32 := Scalar.addi c0_i32_1475 v1361
  v1362.toNat
def k0_dev48 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1504 : BitVec 32 := 1#32
  let v1386 : BitVec 32 := Scalar.muli v7 c1_i32_1504
  let v1387 : BitVec 32 := Scalar.addi c0_i32_1505 v1386
  v1387.toNat
def k0_dev49 (d0 : Dev nD) : Nat :=
  let c0_i32_1535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1534 : BitVec 32 := 1#32
  let v1411 : BitVec 32 := Scalar.muli v4 c1_i32_1534
  let v1412 : BitVec 32 := Scalar.addi c0_i32_1535 v1411
  v1412.toNat
def k0_dev50 (d0 : Dev nD) : Nat :=
  let c0_i32_1565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1564 : BitVec 32 := 1#32
  let v1436 : BitVec 32 := Scalar.muli v7 c1_i32_1564
  let v1437 : BitVec 32 := Scalar.addi c0_i32_1565 v1436
  v1437.toNat
def k0_dev51 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1610 : BitVec 32 := 1#32
  let v1485 : BitVec 32 := Scalar.muli v4 c1_i32_1610
  let v1486 : BitVec 32 := Scalar.addi c0_i32_1611 v1485
  v1486.toNat
def k0_dev52 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1640 : BitVec 32 := 1#32
  let v1510 : BitVec 32 := Scalar.muli v7 c1_i32_1640
  let v1511 : BitVec 32 := Scalar.addi c0_i32_1641 v1510
  v1511.toNat
def k0_dev53 (d0 : Dev nD) : Nat :=
  let c0_i32_1671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1670 : BitVec 32 := 1#32
  let v1535 : BitVec 32 := Scalar.muli v4 c1_i32_1670
  let v1536 : BitVec 32 := Scalar.addi c0_i32_1671 v1535
  v1536.toNat
def k0_dev54 (d0 : Dev nD) : Nat :=
  let c0_i32_1701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1700 : BitVec 32 := 1#32
  let v1560 : BitVec 32 := Scalar.muli v7 c1_i32_1700
  let v1561 : BitVec 32 := Scalar.addi c0_i32_1701 v1560
  v1561.toNat
def k0_dev55 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1746 : BitVec 32 := 1#32
  let v1609 : BitVec 32 := Scalar.muli v4 c1_i32_1746
  let v1610 : BitVec 32 := Scalar.addi c0_i32_1747 v1609
  v1610.toNat
def k0_dev56 (d0 : Dev nD) : Nat :=
  let c0_i32_1777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1776 : BitVec 32 := 1#32
  let v1634 : BitVec 32 := Scalar.muli v7 c1_i32_1776
  let v1635 : BitVec 32 := Scalar.addi c0_i32_1777 v1634
  v1635.toNat
def k0_dev57 (d0 : Dev nD) : Nat :=
  let c0_i32_1807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1806 : BitVec 32 := 1#32
  let v1659 : BitVec 32 := Scalar.muli v4 c1_i32_1806
  let v1660 : BitVec 32 := Scalar.addi c0_i32_1807 v1659
  v1660.toNat
def k0_dev58 (d0 : Dev nD) : Nat :=
  let c0_i32_1837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1836 : BitVec 32 := 1#32
  let v1684 : BitVec 32 := Scalar.muli v7 c1_i32_1836
  let v1685 : BitVec 32 := Scalar.addi c0_i32_1837 v1684
  v1685.toNat
def k0_dev59 (d0 : Dev nD) : Nat :=
  let c0_i32_1883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1882 : BitVec 32 := 1#32
  let v1733 : BitVec 32 := Scalar.muli v4 c1_i32_1882
  let v1734 : BitVec 32 := Scalar.addi c0_i32_1883 v1733
  v1734.toNat
def k0_dev60 (d0 : Dev nD) : Nat :=
  let c0_i32_1913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1912 : BitVec 32 := 1#32
  let v1758 : BitVec 32 := Scalar.muli v7 c1_i32_1912
  let v1759 : BitVec 32 := Scalar.addi c0_i32_1913 v1758
  v1759.toNat
def k0_dev61 (d0 : Dev nD) : Nat :=
  let c0_i32_1943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1942 : BitVec 32 := 1#32
  let v1783 : BitVec 32 := Scalar.muli v4 c1_i32_1942
  let v1784 : BitVec 32 := Scalar.addi c0_i32_1943 v1783
  v1784.toNat
def k0_dev62 (d0 : Dev nD) : Nat :=
  let c0_i32_1973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1972 : BitVec 32 := 1#32
  let v1808 : BitVec 32 := Scalar.muli v7 c1_i32_1972
  let v1809 : BitVec 32 := Scalar.addi c0_i32_1973 v1808
  v1809.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Program.lean ====
/-
# The ring reduce-scatter kernel written once per step

The printed kernel body is one long sequence of operations. Here the same sequence is written by its structure:
two directions of travel (`false` to the right neighbour, `true` to the left one), fifteen transfers per direction,
each in two pieces of 128 rows. `body_eq` says that the printed body is this sequence.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.KernelIdeal.RingRS

open Cert.KernelIdeal Cert.KernelIdeal.Gen
open Idealize.ShloMosaic Idealize.ShloMosaic.TcCoe
open Idealize.SL Idealize.SL.Sem

variable {F : FTy → Type} [FloatOps F]

/-- Programs of one TensorCore over this kernel's buffers. -/
abbrev Code (F : FTy → Type) [FloatOps F] : Type 1 := Prog (TpuEff nD τ sig (Elt F) Λ₀ .tc) PUnit

/-! ## Buffers, pieces and semaphores -/

abbrev xM : Memref sig .tc .vmem S4096x256 .fp8e4m3 := Memref.whole cc0_stg0_0
abbrev wM : Memref sig .tc .vmem S256x2048 .fp8e5m2 := Memref.whole cc0_stg1_0
abbrev sxM : Memref sig .tc .smem S1 .f32 := Memref.whole cc0_stg2_0
abbrev swM : Memref sig .tc .smem S1 .f32 := Memref.whole cc0_stg3_0
abbrev outM : Memref sig .tc .vmem S256x2048 .f32 := Memref.whole cc0_stg4_0

/-- The communication buffer of a direction: sixteen slots of 256 rows. -/
def commRef (d : Bool) : Ref sig .tc := bif d then cc0_scratch1 else cc0_scratch0
def commM (d : Bool) : Memref sig .tc .vmem S16x256x1024 .bf16 := bif d then Memref.whole cc0_scratch1 else Memref.whole cc0_scratch0
theorem commM_whole (d : Bool) : (commM d).IsWhole := by cases d <;> exact Memref.isWhole_whole _

/-- Piece `j` of slot `u`: rows `128 j … 128 j + 127`. -/
def pieceOff (u : Fin 16) (j : Fin 2) : Fin 3 → Nat := ![u.val, 128 * j.val, 0]
theorem pieceInb : ∀ (u : Fin 16) (j : Fin 2), ∀ a, pieceOff u j a + S1x128x1024.size a ≤ S16x256x1024.size a := by decide
abbrev pieceRect (u : Fin 16) (j : Fin 2) : Rect S16x256x1024 := Rect.unit (s := S16x256x1024) (pieceOff u j) S1x128x1024.size (pieceInb u j)
theorem pieceWords : ∀ (u : Fin 16) (j : Fin 2), (pieceRect u j).WholeWords (EltTy.packing .bf16) := by decide
theorem piecePacked : ∀ (u : Fin 16) (j : Fin 2), (pieceRect u j).PackedRows (EltTy.packing .bf16) := by decide

/-- The slot a transfer leaves from comes one before the slot it arrives in; the first leaves from slot 15. -/
def srcN : ℕ → ℕ | 0 => 15 | s + 1 => s
theorem srcN_lt {s : ℕ} (h : s < 15) : srcN s < 16 := by
  cases s with
  | zero => exact Nat.lt_add_one 15
  | succ s => exact (Nat.lt_of_succ_lt h).trans (Nat.lt_add_one 15)
def srcSlot (s : Fin 15) : Fin 16 := ⟨srcN s.val, srcN_lt s.isLt⟩
def dstSlot (s : Fin 15) : Fin 16 := ⟨s.val, s.isLt.trans (Nat.lt_add_one 15)⟩

/-- Piece `j` of slot `u` as the transfers address it. -/
def pieceM (d : Bool) (u : Fin 16) (j : Fin 2) : Memref sig .tc .vmem S128x1024 .bf16 :=
  ((commM d).slice (pieceRect u j) (fun _ => rfl)).squeeze S128x1024 squeezes_S1x128x1024_S128x1024
theorem pieceM_wordExact (d : Bool) (u : Fin 16) (j : Fin 2) : (pieceM d u j).view.WordExact := by
  cases d <;> exact ((Memref.isWhole_whole _).wordExact_slice rfl _ (pieceWords u j)).reshape _ _

/-- The semaphore arrays: sending (`false`) and receiving (`true`), per direction. -/
def semArr (r d : Bool) : DmaSems sig S15x2 :=
  bif d then (bif r then cc0_scratch5 else cc0_scratch4) else (bif r then cc0_scratch3 else cc0_scratch2)
theorem semInb : ∀ (s : Fin 15) (j : Fin 2), ∀ a, (![s.val, j.val] : Fin 2 → Nat) a + S1x1.size a ≤ S15x2.size a := by decide
def semOf (r d : Bool) (s : Fin 15) (j : Fin 2) : DmaSem sig :=
  (((semArr r d).slice (Rect.unit (s := S15x2) ![s.val, j.val] S1x1.size (semInb s j))).squeeze S_ squeezes_S1x1_S_).sem

abbrev barS : Sem sig := (SemArray.scalar (sig.barrier 0 rfl) : Sems sig S_).sem

/-- The neighbour a direction sends to, as the kernel computes it. -/
def toDev (d : Bool) (c : Dev nD) : Dev nD := bif d then ⟨k0_dev4 c, k0_dev4_lt c⟩ else ⟨k0_dev3 c, k0_dev3_lt c⟩

/-! ## The values -/

/-- One 256-row chunk of the device's partial product, in bfloat16. -/
def chunkVal (xv : Vec F S256x256 .fp8e4m3) (wv : Vec F S256x1024 .fp8e5m2) : FVec F S256x1024 .bf16 :=
  truncf .bf16 (matmul dot_S256x256_S256x1024_S256x1024_1_0_0_1_n_n none (shapeCast S256x256 xv shapeCasts_S256x256_S256x256)
    (shapeCast S256x1024 wv shapeCasts_S256x1024_S256x1024) (constant S256x1024 .f32 0x00000000#32)) bitsLt_bf16_f32

theorem rowsSlices : ∀ j : Fin 2, S256x1024.Slices ![128 * j.val, 0] S128x1024 := by decide
/-- Rows `128 j … 128 j + 127` of a chunk. -/
def rowsOf (j : Fin 2) (v : FVec F S256x1024 .bf16) : FVec F S128x1024 .bf16 :=
  extractStridedSlice S128x1024 ![128 * j.val, 0] v (rowsSlices j)

/-- An arrived piece plus the device's own partial product. -/
def addVal (j : Fin 2) (pre : FVec F S256x1024 .bf16) (v : Vec F S1x128x1024 .bf16) : FVec F S1x128x1024 .bf16 :=
  shapeCast S1x128x1024 (addf (shapeCast S128x1024 v shapeCasts_S1x128x1024_S128x1024) (rowsOf j pre)) shapeCasts_S128x1024_S1x128x1024

/-- The scaled accumulator through `y / (1 + exp (-(clamp y)))`. -/
def actVal (scale : F .f32) (acc : FVec F S128x1024 .f32) : FVec F S128x1024 .f32 :=
  have y : FVec F S128x1024 .f32 := mulf acc (broadcast S128x1024 scale)
  divf y (addf (broadcast S128x1024 (Scalar.ofBits .f32 0x3F800000#32))
    (exp (subf (broadcast S128x1024 (Scalar.ofBits .f32 0x00000000#32))
      (minimumf (broadcast S128x1024 (Scalar.ofBits .f32 0x42700000#32)) (maximumf (broadcast S128x1024 (Scalar.ofBits .f32 0xC2700000#32)) y)))))

/-- The result of a piece from the piece that arrived last and the device's own partial product. -/
def outVal (j : Fin 2) (scale : F .f32) (pre : FVec F S256x1024 .bf16) (v : Vec F S1x128x1024 .bf16) : FVec F S128x1024 .f32 :=
  actVal scale (addf (extf .f32 (shapeCast S128x1024 v shapeCasts_S1x128x1024_S128x1024) bitsLt_bf16_f32) (extf .f32 (rowsOf j pre) bitsLt_bf16_f32))

/-! ## The operations -/

def colOff (d : Bool) : Fin 2 → Nat := ![0, bif d then 1024 else 0]
theorem colInb : ∀ d : Bool, ∀ a, colOff d a + S256x1024.size a ≤ S256x2048.size a := by decide

/-- Read 256 rows of `x` and a column half of `w` and multiply them. -/
def dotG (d : Bool) (off : Fin 2 → Nat) (hoff : ∀ a, off a + S256x256.size a ≤ S4096x256.size a) (k : FVec F S256x1024 .bf16 → Code F) : Code F :=
  .op (.load xM (Rect.unit (s := S4096x256) off S256x256.size hoff).toLoadRect (View.loadsAt_vmem h_S256x256)) fun xv =>
  .op (.load wM (Rect.unit (s := S256x2048) (colOff d) S256x1024.size (colInb d)).toLoadRect (View.loadsAt_vmem h_S256x1024)) fun wv =>
  k (chunkVal xv wv)

/-- Offset of the `x` rows of the first two chunks of a direction (`r = 0, 1`) and of the later ones (`r = 0 … 13`). -/
def offA (d : Bool) (c : Dev nD) (r : Fin 2) : Fin 2 → Nat :=
  bif d then k0_off2 c (BitVec.ofNat 32 (1 + r.val)) else k0_off1 c (BitVec.ofNat 32 (1 + r.val))
theorem offA_inb (d : Bool) (c : Dev nD) (r : Fin 2) : ∀ a, offA d c r a + S256x256.size a ≤ S4096x256.size a := by
  cases d
  · exact k0_off1_inb c r
  · exact k0_off2_inb c r
def offB (d : Bool) (c : Dev nD) (r : Fin 14) : Fin 2 → Nat :=
  bif d then k0_off4 c (BitVec.ofNat 32 r.val) else k0_off3 c (BitVec.ofNat 32 r.val)
theorem offB_inb (d : Bool) (c : Dev nD) (r : Fin 14) : ∀ a, offB d c r a + S256x256.size a ≤ S4096x256.size a := by
  cases d
  · exact k0_off3_inb c r
  · exact k0_off4_inb c r

abbrev slotRect : Rect S16x256x1024 := Rect.unit (s := S16x256x1024) ![15, 0, 0] S1x256x1024.size inb_S16x256x1024_S1x256x1024_15_0_0
theorem slotStores (d : Bool) : ((commM d).access slotRect).Stores Finset.univ := by
  cases d <;>
  exact View.stores_vmem h_S1x256x1024 ((Memref.isWhole_whole _).storeExact_slice rfl _ packedbf16_S16x256x1024_S1x256x1024_15_0_0) (fun _ => rfl)

/-- Fill slot 15 with a chunk. -/
def fillG (d : Bool) (v : FVec F S256x1024 .bf16) (k : Code F) : Code F :=
  .op (.load (commM d) slotRect.toLoadRect (View.loadsAt_vmem h_S1x256x1024)) fun _ =>
  .op (.store (commM d) slotRect (shapeCast S1x256x1024 v shapeCasts_S256x1024_S1x256x1024) Finset.univ (slotStores d) (.inl rfl)) fun _ => k

/-- Start the transfer of piece `j` of step `s`. -/
def sendG (d : Bool) (c : Dev nD) (s : Fin 15) (j : Fin 2) (k : Code F) : Code F :=
  .op (.enqueueDma (pieceM d (srcSlot s) j) (.remote (Dev.tc (toDev d c)) (pieceM d (dstSlot s) j) (.dma (semOf false d s j)) rfl)
    (.dma (semOf true d s j)) (pieceM_wordExact d _ j) (pieceM_wordExact d _ j) ⟨⟨rfl, Or.inl rfl⟩, trivial⟩) fun _ => k

/-- Wait for the arrival of piece `j` of step `s`. -/
def recvG (d : Bool) (s : Fin 15) (j : Fin 2) (k : Code F) : Code F :=
  .op (.waitDma2 (semOf true d s j) (pieceM d (srcSlot s) j) (pieceM d (dstSlot s) j) (pieceM_wordExact d _ j) (pieceM_wordExact d _ j)) fun _ => k

/-- Wait until piece `j` of step `s` has left. -/
def sentG (d : Bool) (s : Fin 15) (j : Fin 2) (k : Code F) : Code F :=
  .op (.waitDma2 (semOf false d s j) (pieceM d (dstSlot s) j) (pieceM d (srcSlot s) j) (pieceM_wordExact d _ j) (pieceM_wordExact d _ j)) fun _ => k

theorem pieceStores (d : Bool) (u : Fin 16) (j : Fin 2) : ((commM d).access (pieceRect u j)).Stores Finset.univ := by
  cases d <;>
  exact View.stores_vmem h_S1x128x1024 ((Memref.isWhole_whole _).storeExact_slice rfl _ (piecePacked u j)) (fun _ => rfl)

/-- Add the device's own partial product to the piece that arrived. -/
def addG (d : Bool) (s : Fin 15) (j : Fin 2) (pre : FVec F S256x1024 .bf16) (k : Code F) : Code F :=
  .op (.load (commM d) (pieceRect (dstSlot s) j).toLoadRect (View.loadsAt_vmem h_S1x128x1024)) fun v =>
  .op (.load (commM d) (pieceRect (dstSlot s) j).toLoadRect (View.loadsAt_vmem h_S1x128x1024)) fun _ =>
  .op (.store (commM d) (pieceRect (dstSlot s) j) (addVal j pre v) Finset.univ (pieceStores d _ j) (.inl rfl)) fun _ => k

def outOff (d : Bool) (j : Fin 2) : Fin 2 → Nat := ![128 * j.val, bif d then 1024 else 0]
theorem outInb : ∀ (d : Bool) (j : Fin 2), ∀ a, outOff d j a + S128x1024.size a ≤ S256x2048.size a := by decide
abbrev outRect (d : Bool) (j : Fin 2) : Rect S256x2048 := Rect.unit (s := S256x2048) (outOff d j) S128x1024.size (outInb d j)

/-- Write a quarter of the result. -/
def lastG (d : Bool) (j : Fin 2) (scale : F .f32) (pre : FVec F S256x1024 .bf16) (k : Code F) : Code F :=
  .op (.load (commM d) (pieceRect (dstSlot 14) j).toLoadRect (View.loadsAt_vmem h_S1x128x1024)) fun v =>
  .op (.load outM (outRect d j).toLoadRect (View.loadsAt_vmem h_S128x1024)) fun _ =>
  .op (.store outM (outRect d j) (outVal j scale pre v) Finset.univ (View.stores_vmem_bits_univ h_S128x1024 rfl) (.inl rfl)) fun _ => k

/-- The four pieces of a step in the kernel's order. -/
def four (g : Bool → Fin 2 → Code F → Code F) (k : Code F) : Code F :=
  g false 0 (g true 0 (g false 1 (g true 1 k)))

/-- Steps `s, s + 1, … , 13`: receive, add, send on, compute the next partial products. -/
def steps (c : Dev nD) : (n s : ℕ) → s + n = 14 → FVec F S256x1024 .bf16 → FVec F S256x1024 .bf16
    → (FVec F S256x1024 .bf16 → FVec F S256x1024 .bf16 → Code F) → Code F
  | 0, _, _, pf, pb, k => k pf pb
  | n + 1, s, h, pf, pb, k =>
    four (fun d j k' => recvG d ⟨s, by omega⟩ j (addG d ⟨s, by omega⟩ j (bif d then pb else pf) (sendG d c ⟨s + 1, by omega⟩ j k')))
      (dotG false (offB false c ⟨s, by omega⟩) (offB_inb false c _) fun pf' =>
        dotG true (offB true c ⟨s, by omega⟩) (offB_inb true c _) fun pb' =>
          steps c n (s + 1) (by omega) pf' pb' k)

/-- The waits for everything sent, from step `s` on. -/
def drain : (n s : ℕ) → s + n = 15 → Code F → Code F
  | 0, _, _, k => k
  | n + 1, s, h, k => four (fun d j k' => sentG d ⟨s, by omega⟩ j k') (drain n (s + 1) (by omega) k)

/-- From the entry handshake on. -/
def afterBarrier (c : Dev nD) : Code F :=
  dotG false (offA false c 0) (offA_inb false c 0) fun vf => fillG false vf <|
  dotG true (offA true c 0) (offA_inb true c 0) fun vb => fillG true vb <|
  four (fun d j k => sendG d c 0 j k) <|
  dotG false (offA false c 1) (offA_inb false c 1) fun pf =>
  dotG true (offA true c 1) (offA_inb true c 1) fun pb =>
  (smemLoad sxM (Rect.unit (s := S1) ![0] S1.size inb_S1_S1_0) numel1_S1 rfl).bind fun a =>
  (smemLoad swM (Rect.unit (s := S1) ![0] S1.size inb_S1_S1_0) numel1_S1 rfl).bind fun b =>
  steps c 14 0 rfl pf pb fun pf' pb' =>
  four (fun d j k => recvG d 14 j (lastG d j (Scalar.mulf a b) (bif d then pb' else pf') k)) <|
  drain 15 0 rfl (.ret ⟨⟩)

/-- The whole body. -/
def ringBody : Code F :=
  .op .deviceId fun c =>
  (semSignalWord (⟨k0_dev1 c, k0_dev1_lt c⟩ : Dev nD) barS 1#32).bind fun _ =>
  (semSignalWord (⟨k0_dev2 c, k0_dev2_lt c⟩ : Dev nD) barS 1#32).bind fun _ =>
  (semWaitWord barS 2#32).bind fun _ => afterBarrier c

set_option maxRecDepth 65536 in
/-- The printed body is the structured one. -/
theorem body_eq :
    cc0_body (F := F) xM (Memref.isWhole_whole _) wM (Memref.isWhole_whole _) sxM (Memref.isWhole_whole _) swM (Memref.isWhole_whole _)
      outM (Memref.isWhole_whole _) (Memref.whole cc0_scratch0) (Memref.isWhole_whole _) (Memref.whole cc0_scratch1) (Memref.isWhole_whole _)
      cc0_scratch2 cc0_scratch3 cc0_scratch4 cc0_scratch5 = ringBody := by
  chain_rfl

end Cert.KernelIdeal.RingRS

end
-- ==== Proof.KernelIdeal.Contents.lean ====
/-
# What the buffers hold

The values the devices compute and send, as functions of the devices' inputs `X` and `W`: the partial products
(`partV`), the piece that leaves at each step (`sentV`), the result (`outAt`).
-/
module

public import proofs.«01_k».proof.Proof.KernelIdeal.Program

@[expose] public section

noncomputable section

namespace Cert.KernelIdeal.RingRS

open Cert.KernelIdeal Cert.KernelIdeal.Gen
open Idealize.ShloMosaic Idealize.ShloMosaic.TcCoe
open Idealize.SL Idealize.SL.Sem

variable {F : FTy → Type} [FloatOps F]

/-! ## The ring -/

/-- The right neighbour, and the left one. -/
def nxt (c : Dev nD) : Dev nD := ⟨(c.val + 1) % 16, Nat.mod_lt _ (Nat.succ_pos 15)⟩
def prv (c : Dev nD) : Dev nD := ⟨(c.val + 15) % 16, Nat.mod_lt _ (Nat.succ_pos 15)⟩
theorem prv_nxt : ∀ c : Dev nD, prv (nxt c) = c := by decide
theorem nxt_prv : ∀ c : Dev nD, nxt (prv c) = c := by decide

/-- The neighbour a direction sends to, and the one it receives from. -/
def tgt (d : Bool) (c : Dev nD) : Dev nD := bif d then prv c else nxt c
def frm (d : Bool) (c : Dev nD) : Dev nD := bif d then nxt c else prv c
theorem frm_tgt (d : Bool) (c : Dev nD) : frm d (tgt d c) = c := by cases d; exacts [prv_nxt c, nxt_prv c]
theorem tgt_frm (d : Bool) (c : Dev nD) : tgt d (frm d c) = c := by cases d; exacts [nxt_prv c, prv_nxt c]
theorem tgt_ne : ∀ c : Dev nD, tgt false c ≠ tgt true c := by decide
theorem toDev_eq (d : Bool) (c : Dev nD) : toDev d c = tgt d c := by
  cases d
  · exact Fin.ext (k0_dev3_eq c)
  · exact Fin.ext (k0_dev4_eq c)
/-- The first signal goes to the left neighbour, the second to the right one. -/
theorem dev1_eq (c : Dev nD) : (⟨k0_dev1 c, k0_dev1_lt c⟩ : Dev nD) = frm false c := Fin.ext (k0_dev1_eq c)
theorem dev2_eq (c : Dev nD) : (⟨k0_dev2 c, k0_dev2_lt c⟩ : Dev nD) = frm true c := Fin.ext (k0_dev2_eq c)

/-- The ring as a permutation. -/
def ringEquiv (d : Bool) : Dev nD ≃ Dev nD := ⟨tgt d, frm d, frm_tgt d, tgt_frm d⟩

/-! ## The chunks -/

/-- The chunk (256 rows of the whole `x`) whose partial product device `c` adds at step `s` of a direction. -/
def blk (d : Bool) (c : Dev nD) (s : ℕ) : Fin 16 :=
  bif d then ⟨(c.val + 1 + s) % 16, Nat.mod_lt _ (Nat.succ_pos 15)⟩ else ⟨(c.val + 31 - s) % 16, Nat.mod_lt _ (Nat.succ_pos 15)⟩

def rowOff (k : Fin 16) : Fin 2 → Nat := ![256 * k.val, 0]
theorem rowInb : ∀ k : Fin 16, ∀ a, rowOff k a + S256x256.size a ≤ S4096x256.size a := by decide

theorem offA_eq (d : Bool) (c : Dev nD) (r : Fin 2) : offA d c r = rowOff (blk d c r.val) := by
  cases d
  · exact k0_off1_eq c r
  · refine (k0_off2_eq c r).trans ?_
    show ![256 * ((c.val + r.val + 33) % 16), 0] = ![256 * ((c.val + 1 + r.val) % 16), 0]
    rw [show (c.val + r.val + 33) % 16 = (c.val + 1 + r.val) % 16 by omega]
theorem offB_eq (d : Bool) (c : Dev nD) (r : Fin 14) : offB d c r = rowOff (blk d c (r.val + 2)) := by
  cases d
  · refine (k0_off3_eq c r).trans ?_
    show ![256 * ((c.val + 29 - r.val) % 16), 0] = ![256 * ((c.val + 31 - (r.val + 2)) % 16), 0]
    rw [show c.val + 31 - (r.val + 2) = c.val + 29 - r.val by omega]
  · refine (k0_off4_eq c r).trans ?_
    show ![256 * ((c.val + r.val + 35) % 16), 0] = ![256 * ((c.val + 1 + (r.val + 2)) % 16), 0]
    rw [show (c.val + r.val + 35) % 16 = (c.val + 1 + (r.val + 2)) % 16 by omega]

/-- The `k`-th 256 rows of `x`, and the left or right half of the columns of `w`. -/
def xRows (x : Vec F S4096x256 .fp8e4m3) (k : Fin 16) : Vec F S256x256 .fp8e4m3 :=
  fun i => x ((Rect.unit (s := S4096x256) (rowOff k) S256x256.size (rowInb k)).emb i)
def wCols (w : Vec F S256x2048 .fp8e5m2) (d : Bool) : Vec F S256x1024 .fp8e5m2 :=
  fun i => w ((Rect.unit (s := S256x2048) (colOff d) S256x1024.size (colInb d)).emb i)
/-- A device's partial product of chunk `k` and a column half. -/
def partV (x : Vec F S4096x256 .fp8e4m3) (w : Vec F S256x2048 .fp8e5m2) (d : Bool) (k : Fin 16) : FVec F S256x1024 .bf16 :=
  chunkVal (xRows x k) (wCols w d)

/-! ## What travels, and the result -/

variable (X : Dev nD → Vec F S4096x256 .fp8e4m3) (W : Dev nD → Vec F S256x2048 .fp8e5m2) (sx sw : Dev nD → F .f32)

/-- The partial product device `c` adds at step `s`. -/
def preV (d : Bool) (c : Dev nD) (s : ℕ) : FVec F S256x1024 .bf16 := partV (X c) (W c) d (blk d c s)

/-- Piece `j` as device `c` sends it at step `s`: what arrived one step earlier plus the device's own part. -/
def sentV (d : Bool) (j : Fin 2) : ℕ → Dev nD → FVec F S128x1024 .bf16
  | 0, c => rowsOf j (preV X W d c 0)
  | s + 1, c => addf (sentV d j s (frm d c)) (rowsOf j (preV X W d c (s + 1)))

/-- A quarter of device `c`'s result. -/
def quarterV (d : Bool) (j : Fin 2) (c : Dev nD) : FVec F S128x1024 .f32 :=
  actVal (Scalar.mulf (sx c) (sw c)) (addf (extf .f32 (sentV X W d j 14 (frm d c)) bitsLt_bf16_f32) (extf .f32 (rowsOf j (preV X W d c 15)) bitsLt_bf16_f32))

/-- Device `c`'s result: the four quarters. -/
def outAt (c : Dev nD) : FVec F S256x2048 .f32 := fun i =>
  quarterV X W sx sw (decide (1024 ≤ (i 1).val)) ⟨(i 0).val / 128, Nat.div_lt_of_lt_mul (i 0).isLt⟩ c
    (fun | 0 => ⟨(i 0).val % 128, Nat.mod_lt _ (Nat.succ_pos 127)⟩ | 1 => ⟨(i 1).val % 1024, Nat.mod_lt _ (Nat.succ_pos 1023)⟩)

/-- The result read through the rectangle of a quarter is the quarter. -/
theorem outAt_quarter (c : Dev nD) (d : Bool) (j : Fin 2) (i : S128x1024.Idx) :
    outAt X W sx sw c ((outRect d j).emb i) = quarterV X W sx sw d j c i := by
  have h0 : (((outRect d j).emb i) 0).val = 128 * j.val + 1 * (i 0).val := rfl
  have h1 : (((outRect d j).emb i) 1).val = (bif d then 1024 else 0) + 1 * (i 1).val := rfl
  have b0 : (i 0).val < 128 := (i 0).isLt
  have b1 : (i 1).val < 1024 := (i 1).isLt
  unfold outAt
  have e1 : decide (1024 ≤ (((outRect d j).emb i) 1).val) = d := by
    rw [h1]; cases d
    · simp only [cond_false]; exact decide_eq_false (by omega)
    · simp only [cond_true]; exact decide_eq_true (by omega)
  have e2 : (⟨(((outRect d j).emb i) 0).val / 128, Nat.div_lt_of_lt_mul (((outRect d j).emb i) 0).isLt⟩ : Fin 2) = j :=
    Fin.ext (by simp only [h0]; omega)
  rw [e1, e2]
  congr 1
  funext a
  match a with
  | 0 => exact Fin.ext (by simp only [h0]; omega)
  | 1 => exact Fin.ext (by simp only [h1]; cases d <;> simp only [cond_false, cond_true] <;> omega)

end Cert.KernelIdeal.RingRS

end
-- ==== Proof.KernelIdeal.Protocol.lean ====
/-
# The protocol

A device's semaphores and who pays them, in one round each:

* the entry handshake: one unit from each neighbour; with it comes the neighbour's communication buffer of the
  direction that leads to that neighbour, slots 0 … 14, as the room for this device's transfers;
* the receiving semaphore of a piece: the piece, holding what the neighbour sent;
* the sending semaphore of a piece: the piece it left from.

A wait only waits for something of a lower level than what is still owed: the handshake is at level 1, the arrival of
the `n`-th piece at level `2 + n`.
-/
module

public import proofs.«01_k».proof.Proof.KernelIdeal.Contents
public import proofs.«01_k».proof.Proof.Gen.KernelIdeal.Launch

@[expose] public section

noncomputable section

namespace Cert.KernelIdeal.RingRS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Transfers and cells -/

/-- A transfer: direction, step, piece. -/
abbrev Xfer : Type := Bool × Fin 15 × Fin 2
/-- Its place in the order in which a device starts its transfers. -/
def key (x : Xfer) : ℕ := 4 * x.2.1.val + 2 * x.2.2.val + x.1.toNat

theorem key_inj {x y : Xfer} (h : key x = key y) : x = y := by
  obtain ⟨d, s, j⟩ := x
  obtain ⟨d', s', j'⟩ := y
  have hj := j.isLt
  have hj' := j'.isLt
  simp only [key] at h
  have hs : s.val = s'.val := by cases d <;> cases d' <;> simp only [Bool.toNat_false, Bool.toNat_true] at h <;> omega
  have hj2 : j.val = j'.val := by cases d <;> cases d' <;> simp only [Bool.toNat_false, Bool.toNat_true] at h <;> omega
  have hd : d = d' := by cases d <;> cases d' <;> simp only [Bool.toNat_false, Bool.toNat_true] at h <;> first | rfl | omega
  rw [hd, Fin.ext hs, Fin.ext hj2]

theorem key_lt (x : Xfer) : key x < 60 := by
  obtain ⟨d, s, j⟩ := x
  have := s.isLt
  have := j.isLt
  cases d <;> simp only [key, Bool.toNat_false, Bool.toNat_true] <;> omega

/-- The transfers from the `n`-th on, and those before it. -/
def From (n : ℕ) : Finset Xfer := Finset.univ.filter fun x => n ≤ key x
def Upto (n : ℕ) : Finset Xfer := Finset.univ.filter fun x => key x < n
theorem mem_From {n : ℕ} {x : Xfer} : x ∈ From n ↔ n ≤ key x := by simp [From]
theorem mem_Upto {n : ℕ} {x : Xfer} : x ∈ Upto n ↔ key x < n := by simp [Upto]
theorem From_key (x : Xfer) : From (key x) = insert x (From (key x + 1)) := by
  ext y
  rw [Finset.mem_insert, mem_From, mem_From]
  constructor
  · intro h
    rcases Nat.eq_or_lt_of_le h with h | h
    · exact .inl (key_inj h.symm)
    · exact .inr h
  · rintro (rfl | h)
    · exact le_rfl
    · omega
theorem not_mem_From (x : Xfer) : x ∉ From (key x + 1) := fun h => by rw [mem_From] at h; omega
theorem Upto_key (x : Xfer) : Upto (key x + 1) = insert x (Upto (key x)) := by
  ext y
  rw [Finset.mem_insert, mem_Upto, mem_Upto]
  constructor
  · intro h
    rcases Nat.eq_or_lt_of_le (Nat.lt_succ_iff.mp h) with h | h
    · exact .inl (key_inj h)
    · exact .inr h
  · rintro (rfl | h)
    · exact Nat.lt_succ_self _
    · omega
theorem not_mem_Upto (x : Xfer) : x ∉ Upto (key x) := fun h => by rw [mem_Upto] at h; omega
theorem From_zero : From 0 = Finset.univ := Finset.filter_true_of_mem fun _ _ => Nat.zero_le _
theorem From_last : From 60 = ∅ := Finset.filter_false_of_mem fun x _ => Nat.not_le.mpr (key_lt x)
theorem Upto_zero : Upto 0 = ∅ := Finset.filter_false_of_mem fun _ _ => Nat.not_lt_zero _
theorem Upto_last : Upto 60 = Finset.univ := Finset.filter_true_of_mem fun x _ => key_lt x

/-- The kernel's own semaphores: sending (`false`) or receiving (`true`), per transfer. -/
abbrev DK : Type := Bool × Xfer
def dsem (k : DK) : DmaSem sig := semOf k.1 k.2.1 k.2.2.1 k.2.2.2
abbrev osem (k : DK) : SemLoc sig := .dma (dsem k)
theorem dsem_val : ∀ k : DK, (dsem k).val = 5 + 60 * k.2.1.toNat + 30 * k.1.toNat + 2 * k.2.2.1.val + k.2.2.2.val := by decide +kernel
theorem dsem_inj : Function.Injective dsem := by
  rintro ⟨r, d, s, j⟩ ⟨r', d', s', j'⟩ h
  have h' := congrArg Fin.val h
  rw [dsem_val, dsem_val] at h'
  have hs := s.isLt
  have hs' := s'.isLt
  have hj := j.isLt
  have hj' := j'.isLt
  have h1 : s.val = s'.val := by cases d <;> cases d' <;> cases r <;> cases r' <;> simp only [Bool.toNat_false, Bool.toNat_true] at h' <;> omega
  have h2 : j.val = j'.val := by cases d <;> cases d' <;> cases r <;> cases r' <;> simp only [Bool.toNat_false, Bool.toNat_true] at h' <;> omega
  have h3 : d = d' := by cases d <;> cases d' <;> cases r <;> cases r' <;> simp only [Bool.toNat_false, Bool.toNat_true] at h' <;> first | rfl | omega
  have h4 : r = r' := by cases d <;> cases d' <;> cases r <;> cases r' <;> simp only [Bool.toNat_false, Bool.toNat_true] at h' <;> first | rfl | omega
  rw [h3, h4, Fin.ext h1, Fin.ext h2]
theorem dsem_ge (k : DK) : 5 ≤ (dsem k).val := by rw [dsem_val]; omega

abbrev CK : Type := Option DK
def csem (k : CK) : SemLoc sig := match k with | none => .reg barS | some k => osem k
theorem csem_inj : Function.Injective csem := by
  rintro (_ | k) (_ | k') h
  · rfl
  · cases h
  · cases h
  · exact congrArg some (dsem_inj (by injection h))
/-- The device's cell a semaphore names, if it is one of the protocol's. -/
def ckOf (sm : SemLoc sig) : Option CK := by
  classical exact if h : ∃ k, csem k = sm then some h.choose else none
theorem ckOf_csem (k : CK) : ckOf (csem k) = some k := by
  have h : ∃ k', csem k' = csem k := ⟨k, rfl⟩
  unfold ckOf
  rw [dif_pos h]
  exact congrArg some (csem_inj h.choose_spec)
theorem ckOf_stage (q : DmaSem sig) (hq : q.val < 5) : ckOf (.dma q) = none := by
  unfold ckOf
  refine dif_neg ?_
  rintro ⟨_ | k, h⟩
  · cases h
  · have h' : dsem k = q := by injection h
    have := dsem_ge k
    rw [h'] at this
    omega

abbrev kcell (c : Dev nD) (k : CK) : GSem nD τ sig := ((c : Thread nD τ), csem k)
abbrev barCell (c : Dev nD) : GSem nD τ sig := kcell c none
abbrev sendCell (c : Dev nD) (x : Xfer) : GSem nD τ sig := kcell c (some (false, x))
abbrev recvCell (c : Dev nD) (x : Xfer) : GSem nD τ sig := kcell c (some (true, x))
theorem kcell_inj {c c' : Dev nD} {k k' : CK} (h : kcell c k = kcell c' k') : c = c' ∧ k = k' :=
  ⟨congrArg (fun g : GSem nD τ sig => g.1.1) h, csem_inj (congrArg Prod.snd h)⟩

/-- The credit of one piece. -/
abbrev N : ℕ := (pieceM false 0 0).view.dmaCredit
theorem N_pos : 0 < N := View.dmaCredit_pos _ (by decide)
theorem piece_credit (d : Bool) (u : Fin 16) (j : Fin 2) : (pieceM d u j).view.dmaCredit = N := by cases d <;> rfl

/-! ## Payloads -/

/-- A piece of device `c` holding `v`; holding anything. -/
def pieceAt (c : Dev nD) (d : Bool) (u : Fin 16) (j : Fin 2) (v : S128x1024.Idx → Elt F .bf16) : sProp 𝕄 :=
  ownsTc c (pieceM d u j) fullShare v
def pieceAny (c : Dev nD) (d : Bool) (u : Fin 16) (j : Fin 2) : sProp 𝕄 := iprop(∃ v, pieceAt (F := F) c d u j v)
/-- The room for the transfers of direction `d` on device `c`. -/
def room (c : Dev nD) (d : Bool) : sProp 𝕄 :=
  bigSep Finset.univ fun y : Fin 15 × Fin 2 => pieceAny (F := F) c d (dstSlot y.1) y.2

instance pieceAt_storable (c : Dev nD) (d : Bool) (u : Fin 16) (j : Fin 2) (v : S128x1024.Idx → Elt F .bf16) :
    BI.Storable (upEmb : UEmb _ 𝕄) (pieceAt (F := F) c d u j v) := by unfold pieceAt; infer_instance
instance pieceAny_storable (c : Dev nD) (d : Bool) (u : Fin 16) (j : Fin 2) :
    BI.Storable (upEmb : UEmb _ 𝕄) (pieceAny (F := F) c d u j) := by unfold pieceAny; infer_instance
instance room_storable (c : Dev nD) (d : Bool) : BI.Storable (upEmb : UEmb _ 𝕄) (room (F := F) c d) := by unfold room; infer_instance

variable (X : Dev nD → Vec F S4096x256 .fp8e4m3) (W : Dev nD → Vec F S256x2048 .fp8e5m2)

/-- What arrives with transfer `x` on device `c`, and what comes back when it has left. -/
def recvPay (c : Dev nD) (x : Xfer) : sProp 𝕄 := pieceAt c x.1 (dstSlot x.2.1) x.2.2 (sentV X W x.1 x.2.2 x.2.1.val (frm x.1 c))
def sendPay (c : Dev nD) (x : Xfer) : sProp 𝕄 := pieceAny (F := F) c x.1 (srcSlot x.2.1) x.2.2

def payOf (c : Dev nD) (k : Option CK) (b : Bool) : sProp 𝕄 := match k with
  | some none => room (F := F) (tgt b c) b
  | some (some (true, x)) => recvPay X W c x
  | some (some (false, x)) => sendPay (F := F) c x
  | none => iprop(emp)
def dutiesOf (k : Option CK) : Finset Bool := match k with
  | some none => Finset.univ
  | some (some _) => {false}
  | none => ∅
def amountOf (k : Option CK) : ℕ := match k with
  | some none => 1
  | _ => N

instance payOf_storable (c : Dev nD) (k : Option CK) (b : Bool) : BI.Storable (upEmb : UEmb _ 𝕄) (payOf X W c k b) := by
  unfold payOf recvPay sendPay
  split <;> infer_instance

/-- One round, round 0, of each cell. -/
def ringRd : Rounds.Schedule (GSem nD τ sig) Bool 𝕄 where
  duties g r := if r = 0 ∧ g.1.2 = .tc then dutiesOf (ckOf g.2) else ∅
  unitless _ := False
  amount g _ _ := amountOf (ckOf g.2)
  payload g _ b := payOf X W g.1.1 (ckOf g.2) b
  amount_pos g _ _ _ := by
    unfold amountOf
    split
    · exact Nat.one_pos
    · exact N_pos

instance ringRd_payload_storable (g : GSem nD τ sig) (r : ℕ) (b : Bool) :
    BI.Storable (upEmb : UEmb _ 𝕄) ((ringRd X W).payload g r b) := payOf_storable X W _ _ _

section Sched
variable (c : Dev nD) (x : Xfer) (k : DK)

theorem duties_at (k : CK) : (ringRd X W).duties (kcell c k) 0 = dutiesOf (some k) := by
  dsimp only [ringRd]; rw [if_pos ⟨rfl, rfl⟩, ckOf_csem]
theorem amount_at (k : CK) (b : Bool) : (ringRd X W).amount (kcell c k) 0 b = amountOf (some k) := by
  dsimp only [ringRd]; rw [ckOf_csem]
theorem payload_at (k : CK) (b : Bool) : (ringRd X W).payload (kcell c k) 0 b = payOf X W c (some k) b := by
  dsimp only [ringRd]; rw [ckOf_csem]
theorem duties_later (g : GSem nD τ sig) : ∀ r, 1 ≤ r → (ringRd X W).duties g r = ∅ :=
  fun r hr => by dsimp only [ringRd]; rw [if_neg fun h => by omega]

theorem duties_bar : (ringRd X W).duties (barCell c) 0 = Finset.univ := duties_at X W c none
theorem duties_dma : (ringRd X W).duties (kcell c (some k)) 0 = {false} := duties_at X W c (some k)
theorem amount_bar (b : Bool) : (ringRd X W).amount (barCell c) 0 b = 1 := amount_at X W c none b
theorem amount_dma (b : Bool) : (ringRd X W).amount (kcell c (some k)) 0 b = N := amount_at X W c (some k) b
theorem expect_bar : (ringRd X W).expect (barCell c) 0 = 2 := by
  unfold Schedule.expect Schedule.amountOf
  rw [duties_bar, Finset.sum_congr rfl fun d _ => amount_bar X W c d, Finset.sum_const, Finset.card_univ, Fintype.card_bool, smul_eq_mul]
theorem expect_dma : (ringRd X W).expect (kcell c (some k)) 0 = N := by
  unfold Schedule.expect Schedule.amountOf; rw [duties_dma, Finset.sum_singleton, amount_dma]
theorem payload_bar (b : Bool) : (ringRd X W).payload (barCell c) 0 b = room (F := F) (tgt b c) b := payload_at X W c none b
theorem payload_recv (b : Bool) : (ringRd X W).payload (recvCell c x) 0 b = recvPay X W c x := payload_at X W c (some (true, x)) b
theorem payload_send (b : Bool) : (ringRd X W).payload (sendCell c x) 0 b = sendPay (F := F) c x := payload_at X W c (some (false, x)) b

/-- The handshake brings the room on both neighbours. -/
theorem rest_bar : bigSep ((ringRd X W).duties (barCell c) 0 \ ∅) (fun b => (ringRd X W).payload (barCell c) 0 b)
    = bigSep Finset.univ fun x : Xfer => pieceAny (F := F) (tgt x.1 c) x.1 (dstSlot x.2.1) x.2.2 := by
  rw [Finset.sdiff_empty, duties_bar, bigSep_univ_prod]
  exact bigSep_congr fun b _ => payload_bar X W c b
theorem rest_recv : bigSep ((ringRd X W).duties (recvCell c x) 0 \ ∅) (fun b => (ringRd X W).payload (recvCell c x) 0 b) = recvPay X W c x := by
  rw [Finset.sdiff_empty, duties_dma, bigSep_singleton, payload_recv]
theorem rest_send : bigSep ((ringRd X W).duties (sendCell c x) 0 \ ∅) (fun b => (ringRd X W).payload (sendCell c x) 0 b) = sendPay (F := F) c x := by
  rw [Finset.sdiff_empty, duties_dma, bigSep_singleton, payload_send]

end Sched

/-! ## What a device owes; the levels -/

/-- The credits of the transfers `S`, owed to the receiving cells. -/
def OX (c : Dev nD) (S : Finset Xfer) : CellTallies nD τ sig Unit := ∑ x ∈ S, tallyAt (recvCell (tgt x.1 c) x) () N
theorem OX_insert (c : Dev nD) {S : Finset Xfer} {x : Xfer} (h : x ∉ S) :
    OX c (insert x S) = OX c S + tallyAt (recvCell (tgt x.1 c) x) () N := by
  unfold OX; rw [Finset.sum_insert h, add_comm]
theorem OX_empty (c : Dev nD) : OX c ∅ = 0 := Finset.sum_empty
theorem OX_apply (c : Dev nD) (S : Finset Xfer) (g : GSem nD τ sig) (u : Unit) :
    OX c S g u = ∑ x ∈ S, if g = recvCell (tgt x.1 c) x then N else 0 := by
  unfold OX
  induction S using Finset.induction_on with
  | empty => rfl
  | insert x S hx ih =>
    rw [Finset.sum_insert hx, Finset.sum_insert hx, Pi.add_apply, Finsupp.add_apply, ih, tallyAt_apply]
    simp only [and_true]
theorem OX_pos {c : Dev nD} {S : Finset Xfer} {g : GSem nD τ sig} {u : Unit} (h : 0 < OX c S g u) :
    ∃ x ∈ S, g = recvCell (tgt x.1 c) x := by
  rw [OX_apply] at h
  by_contra hn
  rw [Finset.sum_eq_zero fun x hx => if_neg fun hg => hn ⟨x, hx, hg⟩] at h
  exact Nat.lt_irrefl 0 h

/-- At launch: all transfers and the two units of the handshake. -/
def O₁ (c : Dev nD) : CellTallies nD τ sig Unit := OX c (From 0) + tallyAt (barCell (frm true c)) () 1
def O₀ (c : Dev nD) : CellTallies nD τ sig Unit := O₁ c + tallyAt (barCell (frm false c)) () 1

theorem O₀_apply (c : Dev nD) (g : GSem nD τ sig) (u : Unit) :
    O₀ c g u = OX c (From 0) g u + (if g = barCell (frm true c) then 1 else 0) + (if g = barCell (frm false c) then 1 else 0) := by
  unfold O₀ O₁
  rw [Pi.add_apply, Finsupp.add_apply, Pi.add_apply, Finsupp.add_apply, tallyAt_apply, tallyAt_apply]
  simp only [and_true]
theorem O₀_pos {c : Dev nD} {g : GSem nD τ sig} {u : Unit} (h : 0 < O₀ c g u) :
    (∃ x : Xfer, g = recvCell (tgt x.1 c) x) ∨ ∃ b, g = barCell (frm b c) := by
  rw [O₀_apply] at h
  by_cases h1 : g = barCell (frm true c)
  · exact .inr ⟨_, h1⟩
  by_cases h2 : g = barCell (frm false c)
  · exact .inr ⟨_, h2⟩
  rw [if_neg h1, if_neg h2, add_zero, add_zero] at h
  obtain ⟨x, -, hx⟩ := OX_pos h
  exact .inl ⟨x, hx⟩

def L (g : GSem nD τ sig) : Finset Unit := if g.1.2 = .tc then {()} else ∅
def lvOf (k : Option CK) : ℕ := match k with
  | some none => 1
  | some (some (true, x)) => 2 + key x
  | _ => 0
def lv (g : GSem nD τ sig) (_ : Unit) : ℕ := lvOf (ckOf g.2)
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [ckOf_csem]; rfl
theorem lv_recv (c : Dev nD) (x : Xfer) (u : Unit) : lv (recvCell c x) u = 2 + key x := by unfold lv; rw [ckOf_csem]; rfl

/-- A device that only owes transfers from the `n`-th on may wait for a cell below level `2 + n`. -/
theorem mayWait_OX (c : Dev nD) (sm : SemLoc sig) (n b : ℕ) (hb : lv ((c : Thread nD τ), sm) () ≤ b) (hn : b < 2 + n) :
    (levAts L lv : sProp 𝕄) ⊢ MayWait (c : Thread nD τ) sm () (OX c (From n)) :=
  MayOwe.of_cut (L := L) (lev := lv) b (fun p hp => by rw [Finset.mem_singleton.mp hp, L_tc]; exact Finset.mem_singleton_self _)
    (fun g u hg => by
      obtain ⟨x, -, rfl⟩ := OX_pos hg
      exact Finset.mem_singleton_self _)
    (fun p hp => by rw [Finset.mem_singleton.mp hp]; exact hb)
    (fun g u hg => by
      obtain ⟨x, hx, rfl⟩ := OX_pos hg
      rw [lv_recv]
      rw [mem_From] at hx
      omega)

/-- At the staging waits a device owes what it owes at launch, or nothing. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨x, rfl⟩ | ⟨b, rfl⟩ <;> exact Finset.mem_singleton_self _)
      (fun p hp => by rw [Finset.mem_singleton.mp hp]; unfold lv; rw [ckOf_stage q hq]; exact le_rfl)
      (fun g u hg => by
        rcases O₀_pos hg with ⟨x, rfl⟩ | ⟨b, rfl⟩
        · rw [lv_recv]; omega
        · rw [lv_bar]; exact Nat.one_pos)
  · rw [MayWait_zero]; iintro -; iempintro

end Cert.KernelIdeal.RingRS

end
-- ==== Proof.KernelIdeal.Pieces.lean ====
/-
# The communication buffers in pieces, and the operations that touch no semaphore
-/
module

public import proofs.«01_k».proof.Proof.KernelIdeal.Protocol
public import Idealize.ShloMosaic.Lib.ValueLayout

@[expose] public section

noncomputable section

namespace Cert.KernelIdeal.RingRS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

/-! ## Element sets -/

/-- The elements of a piece, and of slot 15. -/
def pset (d : Bool) (u : Fin 16) (j : Fin 2) : Finset (commM d).view.ty.Idx := ((commM d).view.slice (pieceRect u j)).set
def slot15 (d : Bool) : Finset (commM d).view.ty.Idx := ((commM d).view.slice slotRect).set
theorem pieceM_set (d : Bool) (u : Fin 16) (j : Fin 2) : (pieceM d u j).view.set = pset d u j := View.set_reshape _ _

theorem pset_disjoint (d : Bool) {p q : Fin 16 × Fin 2} (h : p ≠ q) : Disjoint (pset d p.1 p.2) (pset d q.1 q.2) := by
  obtain ⟨u, j⟩ := p
  obtain ⟨u', j'⟩ := q
  by_cases hu : u = u'
  · subst hu
    have hj : j.val ≠ j'.val := fun e => h (by rw [Fin.ext e])
    refine View.disjoint_slice_of_sep _ _ _ (1 : Fin 3) rfl rfl ?_
    show 128 * j.val + 128 ≤ 128 * j'.val ∨ 128 * j'.val + 128 ≤ 128 * j.val
    omega
  · have hu' : u.val ≠ u'.val := fun e => hu (Fin.ext e)
    refine View.disjoint_slice_of_sep _ _ _ (0 : Fin 3) rfl rfl ?_
    show u.val + 1 ≤ u'.val ∨ u'.val + 1 ≤ u.val
    omega

/-- Every element lies in a piece. -/
theorem pset_cover (d : Bool) (i : (commM d).view.ty.Idx) (hi : i ∈ (commM d).view.set) : ∃ p : Fin 16 × Fin 2, i ∈ pset d p.1 p.2 := by
  rw [View.set, Finset.mem_map] at hi
  obtain ⟨y, -, rfl⟩ := hi
  have h0 : (y 0).val < 16 := (y 0).isLt
  have h1 : (y 1).val < 256 := (y 1).isLt
  have h2 : (y 2).val < 1024 := (y 2).isLt
  refine ⟨(⟨(y 0).val, h0⟩, ⟨(y 1).val / 128, by omega⟩), ?_⟩
  unfold pset
  rw [View.set_slice, Finset.mem_map' (commM d).view.emb, Rect.mem_set_unit]
  intro a
  match a with
  | 0 => exact ⟨le_rfl, Nat.lt_succ_self _⟩
  | 1 => constructor <;> simp only [pieceOff] <;> norm_num <;> omega
  | 2 => exact ⟨Nat.zero_le _, by simp only [pieceOff]; norm_num; exact h2⟩

theorem pset_subset (d : Bool) (u : Fin 16) (j : Fin 2) : pset d u j ⊆ (commM d).view.set := View.set_slice_subset _ _

theorem slot15_eq (d : Bool) : slot15 d = pset d 15 0 ∪ pset d 15 1 := by
  unfold slot15 pset
  rw [View.set_slice, View.set_slice, View.set_slice, ← Finset.map_union]
  refine congrArg (Finset.map (commM d).view.emb) (Finset.ext fun y => ?_)
  have h1 : (y 1).val < 256 := (y 1).isLt
  have h2 : (y 2).val < 1024 := (y 2).isLt
  rw [Finset.mem_union, Rect.mem_set_unit, Rect.mem_set_unit, Rect.mem_set_unit]
  constructor
  · intro h
    have h0 := h 0
    by_cases hy : (y 1).val < 128
    · refine .inl fun a => ?_
      match a with
      | 0 => exact h0
      | 1 => exact ⟨Nat.zero_le _, hy⟩
      | 2 => exact ⟨Nat.zero_le _, h2⟩
    · refine .inr fun a => ?_
      match a with
      | 0 => exact h0
      | 1 => exact ⟨Nat.not_lt.mp hy, h1⟩
      | 2 => exact ⟨Nat.zero_le _, h2⟩
  · rintro (h | h) <;> intro a <;>
    match a with
    | 0 => exact h 0
    | 1 => exact ⟨Nat.zero_le _, h1⟩
    | 2 => exact ⟨Nat.zero_le _, h2⟩

/-! ## Splitting and joining -/

/-- The whole communication buffer of a direction. -/
def commPts (c : Dev nD) (d : Bool) (f : (commM d).view.ty.Contents (Elt F)) : sProp 𝕄 :=
  (commM d).view.loc (c : Thread nD τ) ↦[(commM d).view.set]{fullShare} f
/-- Slot 15 of it. -/
def slotPts (c : Dev nD) (d : Bool) (f : (commM d).view.ty.Contents (Elt F)) : sProp 𝕄 :=
  (commM d).view.loc (c : Thread nD τ) ↦[slot15 d]{fullShare} f
/-- The elements of a piece at contents `f` of the buffer. -/
def pts (c : Dev nD) (d : Bool) (p : Fin 16 × Fin 2) (f : (commM d).view.ty.Contents (Elt F)) : sProp 𝕄 :=
  (commM d).view.loc (c : Thread nD τ) ↦[pset d p.1 p.2]{fullShare} f

theorem pieceAt_elim (c : Dev nD) (d : Bool) (u : Fin 16) (j : Fin 2) (v : S128x1024.Idx → Elt F .bf16) :
    pieceAt c d u j v ⊢ iprop(∃ f, ⌜(pieceM d u j).view.read (Elt F) f = v⌝ ∗ pts (F := F) c d (u, j) f) := by
  unfold pieceAt ownsTc owns pts
  rw [pieceM_set]
  exact .rfl
theorem pieceAt_intro (c : Dev nD) (d : Bool) (u : Fin 16) (j : Fin 2) {v : S128x1024.Idx → Elt F .bf16} (f : (commM d).view.ty.Contents (Elt F))
    (h : (pieceM d u j).view.read (Elt F) f = v) : pts (F := F) c d (u, j) f ⊢ pieceAt c d u j v := by
  unfold pieceAt ownsTc owns pts
  rw [pieceM_set]
  iintro H
  iexists f
  isplitr; · ipureintro; exact h
  iexact H
theorem pieceAny_elim (c : Dev nD) (d : Bool) (u : Fin 16) (j : Fin 2) : pieceAny c d u j ⊢ iprop(∃ f, pts (F := F) c d (u, j) f) := by
  unfold pieceAny
  iintro ⟨%v, H⟩
  ihave H' := (pieceAt_elim c d u j v) $$ H
  icases H' with ⟨%f, -, H⟩
  iexists f
  iexact H
theorem pieceAny_intro (c : Dev nD) (d : Bool) (u : Fin 16) (j : Fin 2) (f : (commM d).view.ty.Contents (Elt F)) :
    pts (F := F) c d (u, j) f ⊢ pieceAny c d u j := by
  unfold pieceAny
  iintro H
  iexists _
  iapply (pieceAt_intro c d u j f rfl)
  iexact H

/-- The buffer is its 32 pieces. -/
theorem commPts_pieces (c : Dev nD) (d : Bool) (f : (commM d).view.ty.Contents (Elt F)) :
    commPts c d f = bigSep Finset.univ fun p : Fin 16 × Fin 2 => pts (F := F) c d p f := by
  unfold commPts pts
  rw [show (commM d).view.set = (Finset.univ : Finset (Fin 16 × Fin 2)).biUnion fun p => pset d p.1 p.2 from
    Finset.Subset.antisymm (fun i hi => by
        obtain ⟨p, hp⟩ := pset_cover d i hi
        exact Finset.mem_biUnion.mpr ⟨p, Finset.mem_univ _, hp⟩)
      (fun i hi => by
        obtain ⟨p, -, hp⟩ := Finset.mem_biUnion.mp hi
        exact pset_subset d _ _ hp)]
  exact pointsTo_biUnion _ _ fun p _ q _ h => pset_disjoint d h

theorem slotPts_pieces (c : Dev nD) (d : Bool) (f : (commM d).view.ty.Contents (Elt F)) :
    slotPts c d f = iprop(pts (F := F) c d (15, 0) f ∗ pts (F := F) c d (15, 1) f) := by
  unfold slotPts pts
  rw [slot15_eq]
  have h := pset_disjoint d (p := (15, 0)) (q := (15, 1)) (by decide)
  exact equiv_iff.mp ⟨(pointsTo_union h).1, (pointsTo_union h).2⟩

/-- All slots and pieces: those transfers arrive in, and slot 15; those transfers leave from, and slot 14. -/
def inSlots : (Fin 15 × Fin 2) ⊕ Fin 2 ≃ Fin 16 × Fin 2 :=
  Equiv.ofBijective (fun | .inl y => (dstSlot y.1, y.2) | .inr j => (15, j)) (by decide)
def outSlots : (Fin 15 × Fin 2) ⊕ Fin 2 ≃ Fin 16 × Fin 2 :=
  Equiv.ofBijective (fun | .inl y => (srcSlot y.1, y.2) | .inr j => (14, j)) (by decide)

theorem comm_split (c : Dev nD) (d : Bool) (f : (commM d).view.ty.Contents (Elt F)) : commPts c d f ⊢ iprop(room (F := F) c d ∗ slotPts c d f) := by
  rw [commPts_pieces, bigSep_univ_equiv inSlots, bigSep_univ_sum, slotPts_pieces, bigSep_fin_two]
  unfold room
  exact sep_mono_left (bigSep_mono fun y _ => pieceAny_intro c d (dstSlot y.1) y.2 f)

theorem comm_join (c : Dev nD) (d : Bool) :
    iprop((bigSep Finset.univ fun y : Fin 15 × Fin 2 => pieceAny (F := F) c d (srcSlot y.1) y.2) ∗ pieceAny c d 14 0 ∗ pieceAny c d 14 1)
      ⊢ (iprop(∃ f, commPts c d f) : sProp 𝕄) := by
  have h : iprop((bigSep Finset.univ fun y : Fin 15 × Fin 2 => pieceAny (F := F) c d (srcSlot y.1) y.2) ∗ pieceAny c d 14 0 ∗ pieceAny c d 14 1)
      = (bigSep Finset.univ fun p : Fin 16 × Fin 2 => pieceAny (F := F) c d p.1 p.2 : sProp 𝕄) := by
    rw [bigSep_univ_equiv outSlots, bigSep_univ_sum, bigSep_fin_two]
    rfl
  rw [h]
  refine (bigSep_mono fun p _ => pieceAny_elim c d p.1 p.2).trans ?_
  refine (BI.bigSep_exists_pi Finset.univ (fun (p : Fin 16 × Fin 2) (f : (commM d).view.ty.Contents (Elt F)) => pts (F := F) c d p f)).trans ?_
  iintro ⟨%fs, H⟩
  have hj := pointsTo_biUnion_join (Ix := Unit) (Name := ℕ) (U := UU) (Lvl := ℕ) (q := fullShare) (ℓ := (commM d).view.loc (c : Thread nD τ)) (Finset.univ : Finset (Fin 16 × Fin 2))
    (fun p => pset d p.1 p.2) fs (fs (0, 0)) (fun p _ q _ h => pset_disjoint d h)
  unfold pts
  ihave H' := hj $$ H
  icases H' with ⟨%g, -, H⟩
  iexists g
  unfold commPts
  rw [show (commM d).view.set = (Finset.univ : Finset (Fin 16 × Fin 2)).biUnion fun p => pset d p.1 p.2 from
    Finset.Subset.antisymm (fun i hi => by
        obtain ⟨p, hp⟩ := pset_cover d i hi
        exact Finset.mem_biUnion.mpr ⟨p, Finset.mem_univ _, hp⟩)
      (fun i hi => by
        obtain ⟨p, -, hp⟩ := Finset.mem_biUnion.mp hi
        exact pset_subset d _ _ hp)]
  iexact H

/-! ## Reads and writes of pieces -/

/-- What a load of a piece reads, cast to rows, is what the piece holds. -/
theorem piece_read (d : Bool) (u : Fin 16) (j : Fin 2) (f : (commM d).view.ty.Contents (Elt F)) :
    shapeCast S128x1024 (((commM d).view.slice (pieceRect u j)).read (Elt F) f : Vec F S1x128x1024 .bf16) shapeCasts_S1x128x1024_S128x1024
      = (pieceM d u j).view.read (Elt F) f := rfl
theorem piece_write (d : Bool) (u : Fin 16) (j : Fin 2) (f : (commM d).view.ty.Contents (Elt F)) (v : FVec F S128x1024 .bf16) :
    (pieceM d u j).view.read (Elt F) (((commM d).access (pieceRect u j)).write (Elt F) f
      (shapeCast S1x128x1024 v shapeCasts_S128x1024_S1x128x1024 : FVec F S1x128x1024 .bf16) Finset.univ) = v := by
  rw [← piece_read]
  erw [View.read_write_univ]
  exact shapeCast_shapeCast v _ _

/-- After slot 15 is filled with a chunk, each of its pieces holds the chunk's rows. -/
theorem fill_read (d : Bool) (j : Fin 2) (f : (commM d).view.ty.Contents (Elt F)) (v : FVec F S256x1024 .bf16) :
    (pieceM d 15 j).view.read (Elt F) (((commM d).access slotRect).write (Elt F) f
      (shapeCast S1x256x1024 v shapeCasts_S256x1024_S1x256x1024 : FVec F S1x256x1024 .bf16) Finset.univ) = rowsOf j v := by
  rw [← piece_read]
  funext i
  obtain ⟨a, b, rfl⟩ : ∃ (a : Fin 128) (b : Fin 1024), i = ix2 a b := ⟨i 0, i 1, by funext k; match k with | 0 => rfl | 1 => rfl⟩
  have hj : j.val < 2 := j.isLt
  refine (shapeCast_1ab_ab_apply _ _ a b).trans ?_
  have hrow : 128 * j.val + a.val < 256 := by omega
  have e : (pieceRect 15 j).emb (ix3 (0 : Fin 1) a b) = slotRect.emb (ix3 (0 : Fin 1) (⟨128 * j.val + a.val, hrow⟩ : Fin 256) b) := by
    funext k
    match k with
    | 0 => rfl
    | 1 => exact Fin.ext (by show 128 * j.val + 1 * a.val = 0 + 1 * (128 * j.val + a.val); omega)
    | 2 => rfl
  show (commM d).view.read (Elt F) _ ((pieceRect 15 j).emb (ix3 (0 : Fin 1) a b)) = _
  rw [e]
  refine (View.read_slice_write_emb slotRect f _ (Finset.mem_univ _)).trans ?_
  refine (shapeCast_ab_1ab_apply v _ (0 : Fin 1) ⟨128 * j.val + a.val, hrow⟩ b).trans ?_
  unfold rowsOf
  refine (extractStridedSlice_apply _ v _ _ _ fun k => ?_).symm
  match k with
  | 0 => rfl
  | 1 => exact (Nat.zero_add _).symm

/-! ## The operations that touch no semaphore -/

/-- Weakest precondition of the code on device `c`. -/
abbrev WP (c : Dev nD) (p : Code F) (Q : PUnit → sProp 𝕄) : sProp 𝕄 := wp frame (wpE (defs₀ (F := F)) 𝒱₀ (c : Thread nD τ) none) Set.univ p Q

/-- The staging buffers at given contents. -/
def xPts (c : Dev nD) (x : Vec F S4096x256 .fp8e4m3) : sProp 𝕄 := ((c : Thread nD τ).loc cc0_stg0_0) ↦{fullShare} x
def wPts (c : Dev nD) (w : Vec F S256x2048 .fp8e5m2) : sProp 𝕄 := ((c : Thread nD τ).loc cc0_stg1_0) ↦{fullShare} w
def sxPts (c : Dev nD) (a : Vec F S1 .f32) : sProp 𝕄 := ((c : Thread nD τ).loc cc0_stg2_0) ↦{fullShare} a
def swPts (c : Dev nD) (a : Vec F S1 .f32) : sProp 𝕄 := ((c : Thread nD τ).loc cc0_stg3_0) ↦{fullShare} a
def outPts (c : Dev nD) (f : FVec F S256x2048 .f32) : sProp 𝕄 := ((c : Thread nD τ).loc cc0_stg4_0) ↦{fullShare} f

theorem wp_dotG (c : Dev nD) (d : Bool) (off : Fin 2 → Nat) (hoff : ∀ a, off a + S256x256.size a ≤ S4096x256.size a) (b : Fin 16) (h : off = rowOff b)
    (x : Vec F S4096x256 .fp8e4m3) (w : Vec F S256x2048 .fp8e5m2) (k : FVec F S256x1024 .bf16 → Code F) (Q : PUnit → sProp 𝕄) :
    iprop(xPts c x ∗ wPts c w) ⊢ iprop((iprop(xPts c x ∗ wPts c w) -∗ WP c (k (partV x w d b)) Q) -∗ WP c (dotG d off hoff k) Q) := by
  subst h
  unfold xPts wPts dotG
  iintro ⟨Hx, Hw⟩ Hk
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply Hk
  isplitl [Hx] <;> iassumption

/-- The one element of a scale. -/
def elt0 (a : Vec F S1 .f32) : F .f32 := a (fun | 0 => (⟨0, Nat.one_pos⟩ : Fin 1))
theorem elt_eq (a : Vec F S1 .f32) (i : S1.Idx) : a i = elt0 a := congrArg a (funext fun k => by
  match k with
  | 0 => exact Subsingleton.elim (α := Fin 1) _ _)

theorem sx_read (a : Vec F S1 .f32) (x : (Rect.unit (s := S1) ![0] S1.size inb_S1_S1_0).shape.Idx) : sxM.view.readAt (Elt F) (Rect.unit (s := S1) ![0] S1.size inb_S1_S1_0).toLoadRect a x = elt0 a := elt_eq a _
theorem wp_sx (c : Dev nD) (a : Vec F S1 .f32) (h1) (h2) (k : F .f32 → Code F) (Q : PUnit → sProp 𝕄) :
    sxPts c a ⊢ iprop((sxPts c a -∗ WP c (k (elt0 a)) Q)
      -∗ WP c ((smemLoad sxM (Rect.unit (s := S1) ![0] S1.size inb_S1_S1_0) h1 h2).bind k) Q) := by
  unfold sxPts smemLoad smemLoadElt
  simp only [Prog.bind]
  iintro H Hk
  iapply (wp_load 𝒱₀ (c : Thread nD τ) none Set.univ (m := sxM) (Finset.subset_univ _)) $$ H
  iintro H
  rw [sx_read]
  iapply Hk
  iexact H

theorem sw_read (a : Vec F S1 .f32) (x : (Rect.unit (s := S1) ![0] S1.size inb_S1_S1_0).shape.Idx) : swM.view.readAt (Elt F) (Rect.unit (s := S1) ![0] S1.size inb_S1_S1_0).toLoadRect a x = elt0 a := elt_eq a _
theorem wp_sw (c : Dev nD) (a : Vec F S1 .f32) (h1) (h2) (k : F .f32 → Code F) (Q : PUnit → sProp 𝕄) :
    swPts c a ⊢ iprop((swPts c a -∗ WP c (k (elt0 a)) Q)
      -∗ WP c ((smemLoad swM (Rect.unit (s := S1) ![0] S1.size inb_S1_S1_0) h1 h2).bind k) Q) := by
  unfold swPts smemLoad smemLoadElt
  simp only [Prog.bind]
  iintro H Hk
  iapply (wp_load 𝒱₀ (c : Thread nD τ) none Set.univ (m := swM) (Finset.subset_univ _)) $$ H
  iintro H
  rw [sw_read]
  iapply Hk
  iexact H

theorem wp_loadP (c : Dev nD) (d : Bool) (u : Fin 16) (j : Fin 2) (f : (commM d).view.ty.Contents (Elt F)) (hl) (k : Vec F S1x128x1024 .bf16 → Code F) (Q : PUnit → sProp 𝕄) :
    pts c d (u, j) f ⊢ iprop((pts c d (u, j) f -∗ WP c (k (((commM d).view.slice (pieceRect u j)).read (Elt F) f)) Q)
      -∗ WP c (.op (.load (commM d) (pieceRect u j).toLoadRect hl) k) Q) :=
  wp_load_rect 𝒱₀ (c : Thread nD τ) none Set.univ (m := commM d) (r := pieceRect u j) (Finset.Subset.refl _)
theorem wp_storeP (c : Dev nD) (d : Bool) (u : Fin 16) (j : Fin 2) (f : (commM d).view.ty.Contents (Elt F)) (w : Vec F S1x128x1024 .bf16) (hx) (hm) (k : PUnit → Code F) (Q : PUnit → sProp 𝕄) :
    pts c d (u, j) f ⊢ iprop((pts c d (u, j) (((commM d).access (pieceRect u j)).write (Elt F) f w Finset.univ) -∗ WP c (k ⟨⟩) Q)
      -∗ WP c (.op (.store (commM d) (pieceRect u j) w Finset.univ hx hm) k) Q) :=
  wp_store 𝒱₀ (c : Thread nD τ) none Set.univ (m := commM d) (r := pieceRect u j) (Mk := Finset.univ) (by rw [View.setOn_univ]; exact Finset.Subset.refl _)
theorem wp_loadS (c : Dev nD) (d : Bool) (f : (commM d).view.ty.Contents (Elt F)) (hl) (k : Vec F S1x256x1024 .bf16 → Code F) (Q : PUnit → sProp 𝕄) :
    slotPts c d f ⊢ iprop((slotPts c d f -∗ WP c (k (((commM d).view.slice slotRect).read (Elt F) f)) Q)
      -∗ WP c (.op (.load (commM d) slotRect.toLoadRect hl) k) Q) :=
  wp_load_rect 𝒱₀ (c : Thread nD τ) none Set.univ (m := commM d) (r := slotRect) (Finset.Subset.refl _)
theorem wp_storeS (c : Dev nD) (d : Bool) (f : (commM d).view.ty.Contents (Elt F)) (w : Vec F S1x256x1024 .bf16) (hx) (hm) (k : PUnit → Code F) (Q : PUnit → sProp 𝕄) :
    slotPts c d f ⊢ iprop((slotPts c d (((commM d).access slotRect).write (Elt F) f w Finset.univ) -∗ WP c (k ⟨⟩) Q)
      -∗ WP c (.op (.store (commM d) slotRect w Finset.univ hx hm) k) Q) :=
  wp_store 𝒱₀ (c : Thread nD τ) none Set.univ (m := commM d) (r := slotRect) (Mk := Finset.univ) (by rw [View.setOn_univ]; exact Finset.Subset.refl _)

theorem wp_fillG (c : Dev nD) (d : Bool) (f : (commM d).view.ty.Contents (Elt F)) (v : FVec F S256x1024 .bf16) (k : Code F) (Q : PUnit → sProp 𝕄) :
    slotPts c d f ⊢ iprop((iprop(pieceAt c d 15 0 (rowsOf 0 v) ∗ pieceAt c d 15 1 (rowsOf 1 v)) -∗ WP c k Q) -∗ WP c (fillG d v k) Q) := by
  unfold fillG
  iintro Hs Hk
  iapply (wp_loadS c d f) $$ Hs
  iintro Hs
  iapply (wp_storeS c d f) $$ Hs
  iintro Hs
  iapply Hk
  ihave Hs' := (Entails.of_eq (slotPts_pieces c d _)) $$ Hs
  icases Hs' with ⟨H0, H1⟩
  isplitl [H0]
  · iapply (pieceAt_intro c d 15 0 _ (fill_read d 0 f v))
    iexact H0
  · iapply (pieceAt_intro c d 15 1 _ (fill_read d 1 f v))
    iexact H1

theorem wp_addG (c : Dev nD) (d : Bool) (s : Fin 15) (j : Fin 2) (pre : FVec F S256x1024 .bf16) (v : FVec F S128x1024 .bf16)
    (k : Code F) (Q : PUnit → sProp 𝕄) :
    pieceAt c d (dstSlot s) j v ⊢ iprop((pieceAt c d (dstSlot s) j (addf v (rowsOf j pre)) -∗ WP c k Q) -∗ WP c (addG d s j pre k) Q) := by
  unfold addG
  iintro Hs Hk
  ihave Hs' := (pieceAt_elim c d (dstSlot s) j v) $$ Hs
  icases Hs' with ⟨%f, %hf, Hs⟩
  iapply (wp_loadP c d (dstSlot s) j f) $$ Hs
  iintro Hs
  iapply (wp_loadP c d (dstSlot s) j f) $$ Hs
  iintro Hs
  iapply (wp_storeP c d (dstSlot s) j f) $$ Hs
  iintro Hs
  iapply Hk
  subst hf
  iapply (pieceAt_intro c d (dstSlot s) j _ (piece_write d (dstSlot s) j f _))
  iexact Hs

/-- The result's staging buffer with the quarters of `S` written. -/
def outDone (q : Bool → Fin 2 → FVec F S128x1024 .f32) (c : Dev nD) (S : Finset (Bool × Fin 2)) : sProp 𝕄 :=
  iprop(∃ f : FVec F S256x2048 .f32, ⌜∀ p ∈ S, ∀ i, f ((outRect p.1 p.2).emb i) = q p.1 p.2 i⌝ ∗ outPts c f)

theorem outRect_disjoint {p p' : Bool × Fin 2} (h : p ≠ p') (i : S128x1024.Idx) : (outRect p.1 p.2).emb i ∉ (outRect p'.1 p'.2).set := by
  rw [Rect.mem_set_unit]
  intro hm
  have h0 := hm 0
  have h1 := hm 1
  have b0 : (i 0).val < 128 := (i 0).isLt
  have b1 : (i 1).val < 1024 := (i 1).isLt
  have e0 : (((outRect p.1 p.2).emb i) 0).val = 128 * p.2.val + 1 * (i 0).val := rfl
  have e1 : (((outRect p.1 p.2).emb i) 1).val = (bif p.1 then 1024 else 0) + 1 * (i 1).val := rfl
  have c0 : 128 * p'.2.val ≤ (((outRect p.1 p.2).emb i) 0).val ∧ (((outRect p.1 p.2).emb i) 0).val < 128 * p'.2.val + 128 := h0
  have c1 : (bif p'.1 then 1024 else 0) ≤ (((outRect p.1 p.2).emb i) 1).val ∧ (((outRect p.1 p.2).emb i) 1).val < (bif p'.1 then 1024 else 0) + 1024 := h1
  rw [e0] at c0
  rw [e1] at c1
  clear hm h0 h1 e0 e1
  obtain ⟨d, j⟩ := p
  obtain ⟨d', j'⟩ := p'
  dsimp only at c0 c1
  refine h (Prod.ext ?_ (Fin.ext (by show j.val = j'.val; omega)))
  show d = d'
  cases d <;> cases d' <;> simp only [cond_false, cond_true] at c1 <;> first | rfl | omega

/-- The value stored, from what the piece holds. -/
theorem outVal_eq (d : Bool) (j : Fin 2) (scale : F .f32) (pre : FVec F S256x1024 .bf16) (f : (commM d).view.ty.Contents (Elt F)) (v : FVec F S128x1024 .bf16)
    (hf : (pieceM d (dstSlot 14) j).view.read (Elt F) f = v) :
    outVal j scale pre (((commM d).view.slice (pieceRect (dstSlot 14) j)).read (Elt F) f)
      = actVal scale (addf (extf .f32 v bitsLt_bf16_f32) (extf .f32 (rowsOf j pre) bitsLt_bf16_f32)) := by
  rw [← hf, ← piece_read]
  rfl

/-- A store to a quarter of the result writes that quarter and leaves the rest. -/
theorem out_write_same (d : Bool) (j : Fin 2) (g : FVec F S256x2048 .f32) (w : FVec F S128x1024 .f32) (i : S128x1024.Idx) :
    (((outM).access (outRect d j)).write (Elt F) g w Finset.univ : FVec F S256x2048 .f32) ((outRect d j).emb i) = w i := by
  have h := View.read_slice_write_emb (Val := Elt F) (v := View.whole cc0_stg4_0) (outRect d j) g w (Finset.mem_univ i)
  rw [View.read_whole] at h
  exact h
theorem out_write_other (d : Bool) (j : Fin 2) (g : FVec F S256x2048 .f32) (w : FVec F S128x1024 .f32) (y : S256x2048.Idx) (h : y ∉ (outRect d j).set) :
    (((outM).access (outRect d j)).write (Elt F) g w Finset.univ : FVec F S256x2048 .f32) y = g y := by
  have h' := View.read_slice_write_of_not_mem (Val := Elt F) (v := View.whole cc0_stg4_0) (outRect d j) g w Finset.univ (y := y) (by rw [Rect.map_emb_univ]; exact h)
  rw [View.read_whole, View.read_whole] at h'
  exact h'

theorem wp_lastG (q : Bool → Fin 2 → FVec F S128x1024 .f32) (c : Dev nD) (S : Finset (Bool × Fin 2)) (d : Bool) (j : Fin 2) (hS : (d, j) ∉ S)
    (scale : F .f32) (pre : FVec F S256x1024 .bf16) (v : FVec F S128x1024 .bf16)
    (hq : actVal scale (addf (extf .f32 v bitsLt_bf16_f32) (extf .f32 (rowsOf j pre) bitsLt_bf16_f32)) = q d j)
    (k : Code F) (Q : PUnit → sProp 𝕄) :
    iprop(pieceAt c d (dstSlot 14) j v ∗ outDone q c S)
      ⊢ iprop((iprop(pieceAt c d (dstSlot 14) j v ∗ outDone q c (insert (d, j) S)) -∗ WP c k Q) -∗ WP c (lastG d j scale pre k) Q) := by
  unfold lastG outDone
  iintro ⟨Hs, %g, %hg, Ho⟩ Hk
  ihave Hs' := (pieceAt_elim c d (dstSlot 14) j v) $$ Hs
  icases Hs' with ⟨%f, %hf, Hs⟩
  unfold outPts
  iapply (wp_loadP c d (dstSlot 14) j f) $$ Hs
  iintro Hs
  iapply (wp_load 𝒱₀ (c : Thread nD τ) none Set.univ (m := outM) (Finset.subset_univ _)) $$ Ho
  iintro Ho
  iapply (wp_store 𝒱₀ (c : Thread nD τ) none Set.univ (m := outM) (r := outRect d j) (Mk := Finset.univ) (Finset.subset_univ _)) $$ Ho
  iintro Ho
  iapply Hk
  isplitl [Hs]
  · iapply (pieceAt_intro c d (dstSlot 14) j f hf)
    iexact Hs
  iexists _
  isplitr
  pick_goal 2
  · iexact Ho
  ipureintro
  intro p hp i
  by_cases he : p = (d, j)
  · subst he
    refine (out_write_same d j g _ i).trans ?_
    exact congrFun ((outVal_eq d j scale pre f v hf).trans hq) i
  · exact (out_write_other d j g _ _ (outRect_disjoint (p' := (d, j)) he i)).trans (hg p ((Finset.mem_insert.mp hp).resolve_left he) i)

/-- With all four quarters written the buffer holds the result. -/
theorem outDone_all (q : Bool → Fin 2 → FVec F S128x1024 .f32) (c : Dev nD) (o : FVec F S256x2048 .f32)
    (ho : ∀ d j i, o ((outRect d j).emb i) = q d j i) (S : Finset (Bool × Fin 2)) (hS : ∀ p, p ∈ S) :
    outDone q c S ⊢ outPts c o := by
  unfold outDone
  iintro ⟨%f, %hf, H⟩
  have e : f = o := funext fun i => by
    have h0 : (i 0).val < 256 := (i 0).isLt
    have h1 : (i 1).val < 2048 := (i 1).isLt
    obtain ⟨d, j, y, rfl⟩ : ∃ d j y, (outRect d j).emb y = i := by
      refine ⟨decide (1024 ≤ (i 1).val), ⟨(i 0).val / 128, by omega⟩, (fun
        | 0 => ⟨(i 0).val % 128, Nat.mod_lt _ (Nat.succ_pos 127)⟩ | 1 => ⟨(i 1).val % 1024, Nat.mod_lt _ (Nat.succ_pos 1023)⟩), funext fun a => Fin.ext ?_⟩
      match a with
      | 0 => show 128 * ((i 0).val / 128) + 1 * ((i 0).val % 128) = (i 0).val; omega
      | 1 =>
        show (bif decide (1024 ≤ (i 1).val) then 1024 else 0) + 1 * ((i 1).val % 1024) = (i 1).val
        by_cases hc : 1024 ≤ (i 1).val
        · rw [decide_eq_true hc]; simp only [cond_true]; omega
        · rw [decide_eq_false hc]; simp only [cond_false]; omega
    rw [ho, hf (d, j) (hS _) y]
  subst e
  iexact H

end Cert.KernelIdeal.RingRS

end
-- ==== Proof.KernelIdeal.Transfers.lean ====
/-
# One transfer: sending, receiving, waiting until it has left
-/
module

public import proofs.«01_k».proof.Proof.KernelIdeal.Pieces

@[expose] public section

noncomputable section

namespace Cert.KernelIdeal.RingRS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .fp8e4m3) (W : Dev nD → Vec F S256x2048 .fp8e5m2)

/-! ## What every device knows -/

/-- The invariants of all cells, and that each is at its round. -/
def records (K : Dev nD × CK → ℕ) : sProp 𝕄 :=
  iprop((bigSep Finset.univ fun p : Dev nD × CK => cellInv ER (ringRd X W) (K p) (kcell p.1 p.2))
    ∗ bigSep Finset.univ fun p : Dev nD × CK => reached ER (kcell p.1 p.2) 0)

instance records_persistent (K : Dev nD × CK → ℕ) : BI.Persistent (records X W K) := by unfold records; infer_instance

theorem inv_of (K : Dev nD × CK → ℕ) (p : Dev nD × CK) :
    (bigSep Finset.univ fun p : Dev nD × CK => (cellInv ER (ringRd X W) (K p) (kcell p.1 p.2) : sProp 𝕄)) ⊢ cellInv ER (ringRd X W) (K p) (kcell p.1 p.2) :=
  bigSep_elim (Finset.mem_univ p)
theorem reached_of (p : Dev nD × CK) :
    (bigSep Finset.univ fun p : Dev nD × CK => (reached ER (kcell p.1 p.2) 0 : sProp 𝕄)) ⊢ reached ER (kcell p.1 p.2) 0 :=
  bigSep_elim (Finset.mem_univ p)
theorem inv_at (K : Dev nD × CK → ℕ) (c : Dev nD) (k : CK) : records X W K ⊢ cellInv ER (ringRd X W) (K (c, k)) (kcell c k) := by
  unfold records
  iintro ⟨H, -⟩
  iapply (inv_of X W K (c, k))
  iexact H
theorem reached_at (K : Dev nD × CK → ℕ) (c : Dev nD) (k : CK) : records X W K ⊢ reached ER (kcell c k) 0 := by
  unfold records
  iintro ⟨-, H⟩
  iapply (reached_of (F := F) (c, k))
  iexact H

/-! ## The states -/

/-- What a device needs for transfer `x`: the room it goes to, and the two duties it pays. -/
def pendC (c : Dev nD) (x : Xfer) : sProp 𝕄 :=
  iprop(pieceAny (F := F) (tgt x.1 c) x.1 (dstSlot x.2.1) x.2.2 ∗ dutyTok ER (recvCell (tgt x.1 c) x) 0 false ∗ dutyTok ER (sendCell c x) 0 false)
/-- The credit for having started it. -/
def flyC (c : Dev nD) (x : Xfer) : sProp 𝕄 := cred (tallyAt (sendCell c x) () N)
/-- Before and after the wait for the arrival of `x`. -/
def awaitC (c : Dev nD) (x : Xfer) : sProp 𝕄 := iprop(atPos ER (recvCell c x) 0 ∅ 0 ∗ cred (tallyAt (recvCell c x) () N))
def doneC (c : Dev nD) (x : Xfer) : sProp 𝕄 := semVal (recvCell c x) 0
/-- Before and after the wait until `x` has left. -/
def leaveC (c : Dev nD) (x : Xfer) : sProp 𝕄 := iprop(atPos ER (sendCell c x) 0 ∅ 0 ∗ flyC (F := F) c x)
def leftC (c : Dev nD) (x : Xfer) : sProp 𝕄 := iprop(semVal (sendCell c x) 0 ∗ pieceAny (F := F) c x.1 (srcSlot x.2.1) x.2.2)

/-- `n` transfers started; arrived; left. -/
def sendState (c : Dev nD) (n : ℕ) : sProp 𝕄 :=
  iprop((∃ Wt, owes (c : Thread nD τ) (OX c (From n)) Wt) ∗ bigSep (From n) (pendC (F := F) c) ∗ bigSep (Upto n) (flyC (F := F) c))
def recvState (c : Dev nD) (n : ℕ) : sProp 𝕄 := iprop(bigSep (From n) (awaitC (F := F) c) ∗ bigSep (Upto n) (doneC (F := F) c))
def leftState (c : Dev nD) (n : ℕ) : sProp 𝕄 :=
  iprop((∃ Wt, owes (c : Thread nD τ) 0 Wt) ∗ bigSep (From n) (leaveC (F := F) c) ∗ bigSep (Upto n) (leftC (F := F) c))

theorem from_take (Φ : Xfer → sProp 𝕄) (x : Xfer) : bigSep (From (key x)) Φ = iprop(Φ x ∗ bigSep (From (key x + 1)) Φ) := by
  rw [From_key, bigSep_insert (not_mem_From x)]; rfl
theorem upto_put (Φ : Xfer → sProp 𝕄) (x : Xfer) : bigSep (Upto (key x + 1)) Φ = iprop(Φ x ∗ bigSep (Upto (key x)) Φ) := by
  rw [Upto_key, bigSep_insert (not_mem_Upto x)]; rfl

/-! ## Sending -/

/-- What lands on the neighbour is what the device sent. -/
theorem landed_read (c : Dev nD) (d : Bool) (s : Fin 15) (j : Fin 2)
    (fs : (pieceM d (srcSlot s) j).view.ty.Contents (Elt F)) (hfs : (pieceM d (srcSlot s) j).view.read (Elt F) fs = sentV X W d j s.val c)
    (fd : (pieceM d (dstSlot s) j).view.ty.Contents (Elt F)) :
    (pieceM d (dstSlot s) j).view.read (Elt F) ((pieceM d (dstSlot s) j).view.write (Elt F) fd ((pieceM d (srcSlot s) j).view.read (Elt F) fs) Finset.univ)
      = sentV X W d j s.val (frm d (tgt d c)) := by
  rw [View.read_write_univ, hfs, frm_tgt]

/-- The library's rule at one transfer of the ring, addressed to `n = tgt d c`. -/
theorem wp_send_ring (K : Dev nD × CK → ℕ) (c n : Dev nD) (d : Bool) (s : Fin 15) (j : Fin 2) (hn : n = tgt d c)
    {hsc : (pieceM d (dstSlot s) j : Memref sig (Dev.tc n : Thread nD τ).2.kind .vmem S128x1024 .bf16).view.ref.isScScratch = false}
    {hsrc : (pieceM d (srcSlot s) j).view.WordExact} {hdst : (pieceM d (dstSlot s) j).view.WordExact}
    {hsem : DmaTarget.Typed .vmem (.dma (semOf true d s j)) (.remote (Dev.tc n : Thread nD τ) (pieceM d (dstSlot s) j) (.dma (semOf false d s j)) hsc)}
    (O : CellTallies nD τ sig Unit) (Wt : Waits sig Unit) (k : PUnit → Code F) (Q : PUnit → sProp 𝕄)
    (fs : (commM d).view.ty.Contents (Elt F)) (hfs : (pieceM d (srcSlot s) j).view.read (Elt F) fs = sentV X W d j s.val c)
    (fd : (commM d).view.ty.Contents (Elt F)) :
    iprop(cellInv ER (ringRd X W) (K (c, some (false, (d, s, j)))) (sendCell c (d, s, j))
        ∗ cellInv ER (ringRd X W) (K (tgt d c, some (true, (d, s, j)))) (recvCell (tgt d c) (d, s, j))
        ∗ pts c d (srcSlot s, j) fs ∗ pts (tgt d c) d (dstSlot s, j) fd
        ∗ owes (c : Thread nD τ) (O + tallyAt (recvCell (tgt d c) (d, s, j)) () N) Wt
        ∗ dutyTok ER (sendCell c (d, s, j)) 0 false ∗ reached ER (sendCell c (d, s, j)) 0
        ∗ dutyTok ER (recvCell (tgt d c) (d, s, j)) 0 false ∗ reached ER (recvCell (tgt d c) (d, s, j)) 0)
      ⊢ iprop(((cred (tallyAt (sendCell c (d, s, j)) () N) ∗ owes (c : Thread nD τ) O Wt) -∗ WP c (k ⟨⟩) Q)
          -∗ WP c (.op (.enqueueDma (pieceM d (srcSlot s) j) (.remote (Dev.tc n : Thread nD τ) (pieceM d (dstSlot s) j) (.dma (semOf false d s j)) hsc)
            (.dma (semOf true d s j)) hsrc hdst hsem) k) Q) := by
  subst hn
  unfold pts
  rw [← pieceM_set, ← pieceM_set]
  exact Rounds.wp_send_pointsTo 𝒱₀ ER (ringRd X W) (c : Thread nD τ) none (c' := (tgt d c : Thread nD τ)) (src := pieceM d (srcSlot s) j) (dst := pieceM d (dstSlot s) j)
    (sS := .dma (semOf false d s j)) (sem := .dma (semOf true d s j)) (κ₁ := K (c, some (false, (d, s, j)))) (κ₂ := K (tgt d c, some (true, (d, s, j))))
    (r₁ := 0) (r₂ := 0) (d₁ := false) (d₂ := false) (fd := fd) (fs := fs)
    (by
      have h := duties_dma X W c (false, (d, s, j))
      exact h ▸ Finset.mem_singleton_self _)
    (by
      have h := duties_dma X W (tgt d c) (true, (d, s, j))
      exact h ▸ Finset.mem_singleton_self _)
    () () N (by exact piece_credit d (dstSlot s) j) (amount_dma X W c (false, (d, s, j)) false) (amount_dma X W (tgt d c) (true, (d, s, j)) false) O rfl (W := Wt)
    (by
      have h := payload_send X W c (d, s, j) false
      refine BIBase.Entails.trans ?_ (BIBase.Entails.of_eq h.symm)
      unfold sendPay pieceAny pieceAt ownsTc owns
      iintro H
      iexists _
      iexists fs
      isplitr; · ipureintro; rfl
      iexact H)
    (by
      have h := payload_recv X W (tgt d c) (d, s, j) false
      refine BIBase.Entails.trans ?_ (BIBase.Entails.of_eq h.symm)
      unfold recvPay pieceAt ownsTc owns
      iintro H
      iexists _
      isplitr
      pick_goal 2
      · iexact H
      ipureintro
      exact landed_read X W c d s j fs hfs fd)

theorem wp_sendG (K : Dev nD × CK → ℕ) (c : Dev nD) (d : Bool) (s : Fin 15) (j : Fin 2) (n : ℕ) (hn : key (d, s, j) = n) (k : Code F) (Q : PUnit → sProp 𝕄) :
    iprop(records X W K ∗ sendState (F := F) c n ∗ pieceAt c d (srcSlot s) j (sentV X W d j s.val c))
      ⊢ iprop((sendState (F := F) c (n + 1) -∗ WP c k Q) -∗ WP c (sendG d c s j k) Q) := by
  subst hn
  unfold sendState sendG
  rw [from_take, upto_put]
  rw [show From (key (d, s, j)) = insert (d, s, j) (From (key (d, s, j) + 1)) from From_key _, OX_insert c (not_mem_From (d, s, j))]
  iintro ⟨#HR, ⟨⟨%Wt, HO⟩, ⟨Hp, Hpend⟩, Hfly⟩, Hsrc⟩ Hk
  unfold pendC
  icases Hp with ⟨Hdst, HtR, HtS⟩
  ihave Hs := (pieceAt_elim c d (srcSlot s) j _) $$ Hsrc
  icases Hs with ⟨%fs, %hfs, Hs⟩
  ihave Hd := (pieceAny_elim (F := F) (tgt d c) d (dstSlot s) j) $$ Hdst
  icases Hd with ⟨%fd, Hd⟩
  iapply (wp_send_ring X W K c (toDev d c) d s j (toDev_eq d c) (OX c (From (key (d, s, j) + 1))) Wt (fun _ => k) Q fs hfs fd) $$ [Hs Hd HO HtR HtS]
  · isplitr; · iapply (inv_at X W K c (some (false, (d, s, j)))); iexact HR
    isplitr; · iapply (inv_at X W K (tgt d c) (some (true, (d, s, j)))); iexact HR
    isplitl [Hs]; · iexact Hs
    isplitl [Hd]; · iexact Hd
    isplitl [HO]; · iexact HO
    isplitl [HtS]; · iexact HtS
    isplitr; · iapply (reached_at X W K c (some (false, (d, s, j)))); iexact HR
    isplitl [HtR]; · iexact HtR
    iapply (reached_at X W K (tgt d c) (some (true, (d, s, j)))); iexact HR
  iintro ⟨Hc, HO⟩
  iapply Hk
  isplitl [HO]; · iexists Wt; iexact HO
  isplitl [Hpend]; · iexact Hpend
  isplitl [Hc]; · unfold flyC; iexact Hc
  iexact Hfly

/-! ## Receiving, and waiting until a transfer has left -/

theorem wp_wait_ring (K : Dev nD × CK → ℕ) (c : Dev nD) (r d : Bool) (s : Fin 15) (j : Fin 2) (u u' : Fin 16) {hsrc} {hdst}
    (O : CellTallies nD τ sig Unit) (Wt : Waits sig Unit) (k : PUnit → Code F) (Q : PUnit → sProp 𝕄) :
    iprop(cellInv ER (ringRd X W) (K (c, some (r, (d, s, j)))) (kcell c (some (r, (d, s, j)))) ∗ cred (tallyAt (kcell c (some (r, (d, s, j)))) () N)
        ∗ owes (c : Thread nD τ) O Wt ∗ MayWait (c : Thread nD τ) (osem (r, (d, s, j))) () O ∗ atPos ER (kcell c (some (r, (d, s, j)))) 0 ∅ 0)
      ⊢ iprop(((owes (c : Thread nD τ) O (insert (osem (r, (d, s, j)), ()) Wt)
              ∗ atPos ER (kcell c (some (r, (d, s, j)))) (0 + 1) ∅ 0 ∗ reached ER (kcell c (some (r, (d, s, j)))) (0 + 1)
              ∗ bigSep ((ringRd X W).duties (kcell c (some (r, (d, s, j)))) 0 \ ∅) (fun b => (ringRd X W).payload (kcell c (some (r, (d, s, j)))) 0 b))
            -∗ WP c (k ⟨⟩) Q)
          -∗ WP c (.op (.waitDma2 (semOf r d s j) (pieceM d u j) (pieceM d u' j) hsrc hdst) k) Q) := by
  have e := piece_credit d u' j
  have h := Rounds.wp_wait_rest_token (Q := Q) 𝒱₀ ER (ringRd X W) (c : Thread nD τ) none (κ := K (c, some (r, (d, s, j))))
      (wpE_waitDma2_eq (defs := defs₀ (F := F)) 𝒱₀ (c : Thread nD τ) none Set.univ (sem := semOf r d s j) (src := pieceM d u j) (dst := pieceM d u' j) (hsrc := hsrc) (hdst := hdst))
      (Set.mem_univ _) (k := k) () (O := O) (W := Wt) (R := 0) (m := 0) (T := ∅)
      (by rw [Nat.zero_add]; exact e.trans (expect_dma X W c (r, (d, s, j))).symm)
  rw [e] at h
  exact h

theorem wp_recvG (K : Dev nD × CK → ℕ) (c : Dev nD) (d : Bool) (s : Fin 15) (j : Fin 2) (n p : ℕ) (hn : key (d, s, j) = n) (hp : n < p)
    (k : Code F) (Q : PUnit → sProp 𝕄) :
    iprop(records X W K ∗ levAts L lv ∗ sendState (F := F) c p ∗ recvState (F := F) c n)
      ⊢ iprop((iprop(sendState (F := F) c p ∗ recvState (F := F) c (n + 1) ∗ pieceAt c d (dstSlot s) j (sentV X W d j s.val (frm d c))) -∗ WP c k Q)
        -∗ WP c (recvG d s j k) Q) := by
  subst hn
  unfold sendState recvState recvG
  rw [from_take, upto_put]
  iintro ⟨#HR, #Hlev, ⟨⟨%Wt, HO⟩, Hpend, Hfly⟩, ⟨Ha, Haw⟩, Hdone⟩ Hk
  unfold awaitC
  icases Ha with ⟨Hat, Hc⟩
  iapply (wp_wait_ring X W K c true d s j (srcSlot s) (dstSlot s) (OX c (From p)) Wt (fun _ => k) Q) $$ [Hat Hc HO]
  · isplitr; · iapply (inv_at X W K c (some (true, (d, s, j)))); iexact HR
    isplitl [Hc]; · iexact Hc
    isplitl [HO]; · iexact HO
    isplitr
    · iapply (mayWait_OX c (osem (true, (d, s, j))) p (2 + key (d, s, j)) (le_of_eq (lv_recv c (d, s, j) ())) (by omega))
      iexact Hlev
    iexact Hat
  iintro ⟨HO, Hat, -, Hpay⟩
  ihave Hpay := (Entails.of_eq (rest_recv X W c (d, s, j))) $$ Hpay
  unfold recvPay
  imod (Rounds.cell_close ER (ringRd X W) (Set.mem_univ (K (c, some (true, (d, s, j))))) (fun h => h) (R := 0 + 1) (duties_later X W (recvCell c (d, s, j)))) $$ [Hat] with Hz
  · isplitr; · iapply (inv_at X W K c (some (true, (d, s, j)))); iexact HR
    iexact Hat
  iapply Hk
  isplitl [HO Hpend Hfly]
  · isplitl [HO]; · iexists _; iexact HO
    isplitl [Hpend] <;> iassumption
  isplitl [Hz Haw Hdone]
  · isplitl [Haw]; · iexact Haw
    isplitl [Hz]; · unfold doneC; iexact Hz
    iexact Hdone
  iexact Hpay

theorem wp_sentG (K : Dev nD × CK → ℕ) (c : Dev nD) (d : Bool) (s : Fin 15) (j : Fin 2) (n : ℕ) (hn : key (d, s, j) = n)
    (k : Code F) (Q : PUnit → sProp 𝕄) :
    iprop(records X W K ∗ leftState (F := F) c n)
      ⊢ iprop((leftState (F := F) c (n + 1) -∗ WP c k Q) -∗ WP c (sentG d s j k) Q) := by
  subst hn
  unfold leftState sentG
  rw [from_take, upto_put]
  iintro ⟨#HR, ⟨%Wt, HO⟩, ⟨Ha, Haw⟩, Hdone⟩ Hk
  unfold leaveC flyC
  icases Ha with ⟨Hat, Hc⟩
  iapply (wp_wait_ring X W K c false d s j (dstSlot s) (srcSlot s) 0 Wt (fun _ => k) Q) $$ [Hat Hc HO]
  · isplitr; · iapply (inv_at X W K c (some (false, (d, s, j)))); iexact HR
    isplitl [Hc]; · iexact Hc
    isplitl [HO]; · iexact HO
    isplitr; · rw [MayWait_zero]; iempintro
    iexact Hat
  iintro ⟨HO, Hat, -, Hpay⟩
  ihave Hpay := (Entails.of_eq (rest_send X W c (d, s, j))) $$ Hpay
  unfold sendPay
  imod (Rounds.cell_close ER (ringRd X W) (Set.mem_univ (K (c, some (false, (d, s, j))))) (fun h => h) (R := 0 + 1) (duties_later X W (sendCell c (d, s, j)))) $$ [Hat] with Hz
  · isplitr; · iapply (inv_at X W K c (some (false, (d, s, j)))); iexact HR
    iexact Hat
  iapply Hk
  isplitl [HO]; · iexists _; iexact HO
  isplitl [Haw]; · iexact Haw
  isplitl [Hz Hpay]
  · unfold leftC
    isplitl [Hz]; · iexact Hz
    iexact Hpay
  iexact Hdone

end Cert.KernelIdeal.RingRS

end
-- ==== Proof.KernelIdeal.Body.lean ====
/-
# The body of the kernel at one device
-/
module

public import proofs.«01_k».proof.Proof.KernelIdeal.Transfers

@[expose] public section

noncomputable section

namespace Cert.KernelIdeal.RingRS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .fp8e4m3) (W : Dev nD → Vec F S256x2048 .fp8e5m2) (A B : Dev nD → Vec F S1 .f32)

/-- Four operations in the kernel's order, each taking the state one further. -/
theorem wp_four (c : Dev nD) (g : Bool → Fin 2 → Code F → Code F) (I : ℕ → sProp 𝕄) (b : ℕ) (k : Code F) (Q : PUnit → sProp 𝕄)
    (h : ∀ d j k, I (b + 2 * j.val + d.toNat) ⊢ iprop((I (b + 2 * j.val + d.toNat + 1) -∗ WP c k Q) -∗ WP c (g d j k) Q)) :
    I b ⊢ iprop((I (b + 4) -∗ WP c k Q) -∗ WP c (four g k) Q) := by
  unfold four
  have h0 : ∀ k, I b ⊢ iprop((I (b + 1) -∗ WP c k Q) -∗ WP c (g false 0 k) Q) := h false 0
  have h1 : ∀ k, I (b + 1) ⊢ iprop((I (b + 2) -∗ WP c k Q) -∗ WP c (g true 0 k) Q) := h true 0
  have h2 : ∀ k, I (b + 2) ⊢ iprop((I (b + 3) -∗ WP c k Q) -∗ WP c (g false 1 k) Q) := h false 1
  have h3 : ∀ k, I (b + 3) ⊢ iprop((I (b + 4) -∗ WP c k Q) -∗ WP c (g true 1 k) Q) := h true 1
  iintro H Hk
  iapply (h0 _) $$ H
  iintro H
  iapply (h1 _) $$ H
  iintro H
  iapply (h2 _) $$ H
  iintro H
  iapply (h3 _) $$ H
  iintro H
  iapply Hk
  iexact H

/-! ## The steps -/

/-- Between two receives: `m` arrived, four more sent. -/
def stepState (K : Dev nD × CK → ℕ) (c : Dev nD) (m : ℕ) : sProp 𝕄 :=
  iprop(records X W K ∗ levAts L lv ∗ sendState (F := F) c (m + 4) ∗ recvState (F := F) c m)

theorem wp_pieceStep (K : Dev nD × CK → ℕ) (c : Dev nD) (d : Bool) (s : ℕ) (h : s < 14) (j : Fin 2) (pre : FVec F S256x1024 .bf16)
    (hpre : pre = preV X W d c (s + 1)) (m : ℕ) (hm : m = 4 * s + 2 * j.val + d.toNat) (k : Code F) (Q : PUnit → sProp 𝕄) :
    stepState X W K c m
      ⊢ iprop((stepState X W K c (m + 1) -∗ WP c k Q)
        -∗ WP c (recvG d ⟨s, by omega⟩ j (addG d ⟨s, by omega⟩ j pre (sendG d c ⟨s + 1, by omega⟩ j k))) Q) := by
  subst hm hpre
  have h15 : s < 15 := by omega
  have h15' : s + 1 < 15 := by omega
  unfold stepState
  iintro ⟨#HR, #Hlev, Hs, Hr⟩ Hk
  iapply (wp_recvG X W K c d ⟨s, h15⟩ j (4 * s + 2 * j.val + d.toNat) (4 * s + 2 * j.val + d.toNat + 4) rfl (by omega) _ Q) $$ [Hs Hr]
  · isplitr; · iexact HR
    isplitr; · iexact Hlev
    isplitl [Hs] <;> iassumption
  iintro ⟨Hs, Hr, Hp⟩
  iapply (wp_addG c d ⟨s, h15⟩ j (preV X W d c (s + 1)) _ _ Q) $$ Hp
  iintro Hp
  iapply (wp_sendG X W K c d ⟨s + 1, h15'⟩ j (4 * s + 2 * j.val + d.toNat + 4) (by simp only [key]; omega) _ Q) $$ [Hs Hp]
  · isplitr; · iexact HR
    isplitl [Hs]; · iexact Hs
    iexact Hp
  iintro Hs
  iapply Hk
  isplitr; · iexact HR
  isplitr; · iexact Hlev
  isplitl [Hs]; · iexact Hs
  iexact Hr

theorem wp_steps (K : Dev nD × CK → ℕ) (c : Dev nD) (Q : PUnit → sProp 𝕄) (k : FVec F S256x1024 .bf16 → FVec F S256x1024 .bf16 → Code F) :
    ∀ (n s : ℕ) (h : s + n = 14) (pf pb : FVec F S256x1024 .bf16), pf = preV X W false c (s + 1) → pb = preV X W true c (s + 1) →
      iprop(stepState X W K c (4 * s) ∗ xPts c (X c) ∗ wPts c (W c))
        ⊢ iprop((iprop(stepState X W K c 56 ∗ xPts c (X c) ∗ wPts c (W c)) -∗ WP c (k (preV X W false c 15) (preV X W true c 15)) Q)
          -∗ WP c (steps c n s h pf pb k) Q)
  | 0, s, h, pf, pb, hf, hb => by
    have hs : s = 14 := by omega
    subst hs hf hb
    iintro H Hk
    iapply Hk
    iexact H
  | n + 1, s, h, pf, pb, hf, hb => by
    have h14 : s < 14 := by omega
    have hn : s + 1 + n = 14 := by omega
    unfold steps
    iintro ⟨Hst, Hx, Hw⟩ Hk
    iapply (wp_four c _ (stepState X W K c) (4 * s) _ Q (fun d j k' => wp_pieceStep X W K c d s h14 j (bif d then pb else pf)
      (by cases d; exacts [hf, hb]) _ rfl k' Q)) $$ Hst
    iintro Hst
    iapply (wp_dotG c false _ _ _ (offB_eq false c ⟨s, h14⟩) (X c) (W c) _ Q) $$ [Hx Hw]
    · isplitl [Hx] <;> iassumption
    iintro ⟨Hx, Hw⟩
    iapply (wp_dotG c true _ _ _ (offB_eq true c ⟨s, h14⟩) (X c) (W c) _ Q) $$ [Hx Hw]
    · isplitl [Hx] <;> iassumption
    iintro ⟨Hx, Hw⟩
    iapply (wp_steps K c Q k n (s + 1) hn _ _ rfl rfl) $$ [Hst Hx Hw]
    · isplitl [Hst]; · iexact Hst
      isplitl [Hx] <;> iassumption
    iexact Hk

/-! ## The last arrivals -/

/-- The quarters written before the `m`-th arrival. -/
def doneQ (m : ℕ) : Finset (Bool × Fin 2) := Finset.univ.filter fun p => 56 + 2 * p.2.val + p.1.toNat < m
theorem doneQ_put (d : Bool) (j : Fin 2) : (d, j) ∉ doneQ (56 + 2 * j.val + d.toNat)
    ∧ doneQ (56 + 2 * j.val + d.toNat + 1) = insert (d, j) (doneQ (56 + 2 * j.val + d.toNat)) := by
  revert d j; decide

def lastState (K : Dev nD × CK → ℕ) (c : Dev nD) (q : Bool → Fin 2 → FVec F S128x1024 .f32) (m : ℕ) : sProp 𝕄 :=
  iprop(records X W K ∗ levAts L lv ∗ sendState (F := F) c 60 ∗ recvState (F := F) c m ∗ outDone q c (doneQ m)
    ∗ bigSep (doneQ m) fun p => pieceAny (F := F) c p.1 14 p.2)

theorem wp_lastStep (K : Dev nD × CK → ℕ) (c : Dev nD) (d : Bool) (j : Fin 2) (scale : F .f32) (pre : FVec F S256x1024 .bf16)
    (q : Bool → Fin 2 → FVec F S128x1024 .f32)
    (hq : actVal scale (addf (extf .f32 (sentV X W d j 14 (frm d c)) bitsLt_bf16_f32) (extf .f32 (rowsOf j pre) bitsLt_bf16_f32)) = q d j)
    (k : Code F) (Q : PUnit → sProp 𝕄) :
    lastState X W K c q (56 + 2 * j.val + d.toNat)
      ⊢ iprop((lastState X W K c q (56 + 2 * j.val + d.toNat + 1) -∗ WP c k Q) -∗ WP c (recvG d 14 j (lastG d j scale pre k)) Q) := by
  unfold lastState
  obtain ⟨hS, hI⟩ := doneQ_put d j
  have e : bigSep (insert (d, j) (doneQ (56 + 2 * j.val + d.toNat))) (fun p : Bool × Fin 2 => pieceAny (F := F) c p.1 14 p.2)
      = iprop(pieceAny (F := F) c d 14 j ∗ bigSep (doneQ (56 + 2 * j.val + d.toNat)) fun p : Bool × Fin 2 => pieceAny (F := F) c p.1 14 p.2) := bigSep_insert hS
  rw [hI, e]
  have hj := j.isLt
  iintro ⟨#HR, #Hlev, Hs, Hr, Ho, Hps⟩ Hk
  iapply (wp_recvG X W K c d 14 j (56 + 2 * j.val + d.toNat) 60 rfl (by cases d <;> simp only [Bool.toNat_false, Bool.toNat_true] <;> omega) _ Q) $$ [Hs Hr]
  · isplitr; · iexact HR
    isplitr; · iexact Hlev
    isplitl [Hs] <;> iassumption
  iintro ⟨Hs, Hr, Hp⟩
  iapply (wp_lastG q c _ d j hS scale pre _ hq _ Q) $$ [Hp Ho]
  · isplitl [Hp]; · iexact Hp
    iexact Ho
  iintro ⟨Hp, Ho⟩
  iapply Hk
  isplitr; · iexact HR
  isplitr; · iexact Hlev
  isplitl [Hs]; · iexact Hs
  isplitl [Hr]; · iexact Hr
  isplitl [Ho]; · iexact Ho
  isplitl [Hp]
  · unfold pieceAny
    iexists _
    iexact Hp
  iexact Hps

/-! ## The waits for everything sent -/

theorem wp_drain (K : Dev nD × CK → ℕ) (c : Dev nD) (Q : PUnit → sProp 𝕄) (k : Code F) :
    ∀ (n s : ℕ) (h : s + n = 15),
      iprop(records X W K ∗ leftState (F := F) c (4 * s)) ⊢ iprop((leftState (F := F) c 60 -∗ WP c k Q) -∗ WP c (drain n s h k) Q)
  | 0, s, h => by
    have hs : s = 15 := by omega
    subst hs
    iintro ⟨-, H⟩ Hk
    iapply Hk
    iexact H
  | n + 1, s, h => by
    have h15 : s < 15 := by omega
    have hn : s + 1 + n = 15 := by omega
    unfold drain
    iintro ⟨#HR, H⟩ Hk
    iapply (wp_four c _ (fun m => iprop(records X W K ∗ leftState (F := F) c m)) (4 * s) _ Q (fun d j k' => by
      iintro ⟨#HR, H⟩ Hk
      iapply (wp_sentG X W K c d ⟨s, h15⟩ j (4 * s + 2 * j.val + d.toNat) rfl k' Q) $$ [H]
      · isplitr; · iexact HR
        iexact H
      iintro H
      iapply Hk
      isplitr; · iexact HR
      iexact H)) $$ [H]
    · isplitr; · iexact HR
      iexact H
    iintro ⟨-, H⟩
    iapply (wp_drain K c Q k n (s + 1) hn) $$ [H]
    · isplitr; · iexact HR
      iexact H
    iexact Hk

/-! ## From the handshake on -/

/-- The device's result. -/
abbrev resAt (c : Dev nD) : FVec F S256x2048 .f32 := outAt X W (fun c => elt0 (A c)) (fun c => elt0 (B c)) c

/-- The operands and scales, which stay as they are. -/
def inputs (c : Dev nD) : sProp 𝕄 := iprop(xPts c (X c) ∗ wPts c (W c) ∗ sxPts c (A c) ∗ swPts c (B c))

def midPre (c : Dev nD) : sProp 𝕄 :=
  iprop(sendState (F := F) c 0 ∗ recvState (F := F) c 0 ∗ (bigSep Finset.univ fun x : Xfer => atPos ER (sendCell c x) 0 ∅ 0)
    ∗ (∃ f, slotPts c false f) ∗ (∃ f, slotPts c true f) ∗ inputs X W A B c ∗ ∃ g, outPts c g)
def midPost (c : Dev nD) : sProp 𝕄 :=
  iprop((∃ Wt, owes (c : Thread nD τ) 0 Wt) ∗ (bigSep Finset.univ fun x : Xfer => semVal (recvCell c x) 0) ∗ (bigSep Finset.univ fun x : Xfer => semVal (sendCell c x) 0)
    ∗ (∃ f, commPts c false f) ∗ (∃ f, commPts c true f) ∗ inputs X W A B c ∗ outPts c (resAt X W A B c))

/-- What is left and what has arrived put the two buffers together again. -/
theorem comm_back (c : Dev nD) :
    iprop((bigSep Finset.univ fun x : Xfer => pieceAny (F := F) c x.1 (srcSlot x.2.1) x.2.2) ∗ bigSep Finset.univ fun p : Bool × Fin 2 => pieceAny (F := F) c p.1 14 p.2)
      ⊢ (iprop((∃ f, commPts c false f) ∗ ∃ f, commPts c true f) : sProp 𝕄) := by
  have h2 (Φ : Bool → sProp 𝕄) : bigSep Finset.univ Φ = iprop(Φ false ∗ Φ true) := bigSep_univ_eq_bigSepL [false, true] (by decide) (by decide) Φ
  rw [bigSep_univ_prod, bigSep_univ_prod, h2, h2, bigSep_fin_two, bigSep_fin_two]
  iintro ⟨⟨Hf, Hb⟩, Hf', Hb'⟩
  isplitl [Hf Hf']
  · iapply (comm_join (F := F) c false)
    isplitl [Hf] <;> iassumption
  · iapply (comm_join (F := F) c true)
    isplitl [Hb] <;> iassumption

theorem wp_afterBarrier (K : Dev nD × CK → ℕ) (c : Dev nD) (Q : PUnit → sProp 𝕄) :
    iprop(records X W K ∗ levAts L lv ∗ midPre X W A B c) ⊢ iprop((midPost X W A B c -∗ Q ⟨⟩) -∗ WP c (afterBarrier c) Q) := by
  unfold afterBarrier midPre inputs
  iintro ⟨#HR, #Hlev, Hs, Hr, HatS, ⟨%f0, Hsl0⟩, ⟨%f1, Hsl1⟩, ⟨Hx, Hw, Ha, Hb⟩, %g, Ho⟩ Hk
  iapply (wp_dotG c false _ _ _ (offA_eq false c 0) (X c) (W c) _ Q) $$ [Hx Hw]
  · isplitl [Hx] <;> iassumption
  iintro ⟨Hx, Hw⟩
  iapply (wp_fillG c false f0 _ _ Q) $$ Hsl0
  iintro ⟨Hp00, Hp01⟩
  iapply (wp_dotG c true _ _ _ (offA_eq true c 0) (X c) (W c) _ Q) $$ [Hx Hw]
  · isplitl [Hx] <;> iassumption
  iintro ⟨Hx, Hw⟩
  iapply (wp_fillG c true f1 _ _ Q) $$ Hsl1
  iintro ⟨Hp10, Hp11⟩
  unfold four
  iapply (wp_sendG X W K c false 0 0 0 rfl _ Q) $$ [Hs Hp00]
  · isplitr; · iexact HR
    isplitl [Hs]; · iexact Hs
    iexact Hp00
  iintro Hs
  iapply (wp_sendG X W K c true 0 0 1 rfl _ Q) $$ [Hs Hp10]
  · isplitr; · iexact HR
    isplitl [Hs]; · iexact Hs
    iexact Hp10
  iintro Hs
  iapply (wp_sendG X W K c false 0 1 2 rfl _ Q) $$ [Hs Hp01]
  · isplitr; · iexact HR
    isplitl [Hs]; · iexact Hs
    iexact Hp01
  iintro Hs
  iapply (wp_sendG X W K c true 0 1 3 rfl _ Q) $$ [Hs Hp11]
  · isplitr; · iexact HR
    isplitl [Hs]; · iexact Hs
    iexact Hp11
  iintro Hs
  iapply (wp_dotG c false _ _ _ (offA_eq false c 1) (X c) (W c) _ Q) $$ [Hx Hw]
  · isplitl [Hx] <;> iassumption
  iintro ⟨Hx, Hw⟩
  iapply (wp_dotG c true _ _ _ (offA_eq true c 1) (X c) (W c) _ Q) $$ [Hx Hw]
  · isplitl [Hx] <;> iassumption
  iintro ⟨Hx, Hw⟩
  iapply (wp_sx c (A c) _ _ _ Q) $$ Ha
  iintro Ha
  iapply (wp_sw c (B c) _ _ _ Q) $$ Hb
  iintro Hb
  iapply (wp_steps X W K c Q _ 14 0 rfl _ _ rfl rfl) $$ [Hs Hr Hx Hw]
  · isplitl [Hs Hr]
    · unfold stepState
      isplitr; · iexact HR
      isplitr; · iexact Hlev
      isplitl [Hs] <;> iassumption
    isplitl [Hx] <;> iassumption
  unfold stepState
  iintro ⟨⟨-, -, Hs, Hr⟩, Hx, Hw⟩
  iapply (wp_four c (fun d j k => recvG d 14 j (lastG d j (Scalar.mulf (elt0 (A c)) (elt0 (B c))) (bif d then preV X W true c 15 else preV X W false c 15) k))
    (lastState X W K c (fun d j => quarterV X W (fun c => elt0 (A c)) (fun c => elt0 (B c)) d j c)) 56 _ Q
    (fun d j k => wp_lastStep X W K c d j _ _ _ (by cases d <;> rfl) k Q)) $$ [Hs Hr Ho]
  · unfold lastState
    isplitr; · iexact HR
    isplitr; · iexact Hlev
    isplitl [Hs]; · iexact Hs
    isplitl [Hr]; · iexact Hr
    rw [show doneQ 56 = ∅ from by decide, bigSep_empty]
    isplitl [Ho]
    · unfold outDone
      iexists g
      isplitr; · ipureintro; exact fun p hp => absurd hp (Finset.notMem_empty p)
      iexact Ho
    iempintro
  unfold lastState
  iintro ⟨-, -, Hs, Hr, Ho, Hp14⟩
  unfold sendState recvState
  rw [From_last, Upto_last, OX_empty, show doneQ (56 + 4) = Finset.univ from by decide]
  icases Hs with ⟨HO, -, Hfly⟩
  icases Hr with ⟨-, Hdone⟩
  iapply (wp_drain X W K c Q _ 15 0 rfl) $$ [HO Hfly HatS]
  · isplitr; · iexact HR
    unfold leftState leaveC
    rw [From_zero, Upto_zero, bigSep_sep', bigSep_empty]
    isplitl [HO]; · iexact HO
    isplitl [HatS Hfly]
    · isplitl [HatS] <;> iassumption
    iempintro
  unfold leftState leftC
  rw [Upto_last, bigSep_sep']
  iintro ⟨HO, -, Hsem, Hhome⟩
  unfold WP
  rw [wp_ret]
  imodintro
  iapply Hk
  unfold midPost inputs
  isplitl [HO]; · iexact HO
  isplitl [Hdone]; · unfold doneC; iexact Hdone
  isplitl [Hsem]; · iexact Hsem
  ihave Hc := (comm_back (F := F) c) $$ [Hhome Hp14]
  · isplitl [Hhome] <;> iassumption
  icases Hc with ⟨Hc0, Hc1⟩
  isplitl [Hc0]; · iexact Hc0
  isplitl [Hc1]; · iexact Hc1
  isplitl [Hx Hw Ha Hb]
  · isplitl [Hx]; · iexact Hx
    isplitl [Hw]; · iexact Hw
    isplitl [Ha] <;> iassumption
  iapply (outDone_all _ c (resAt X W A B c) (fun d j i => outAt_quarter X W _ _ c d j i) Finset.univ (fun p => Finset.mem_univ p))
  iexact Ho

/-! ## The whole body -/

/-- A unit of the handshake, with the room it hands over. -/
theorem wp_signal_ring (K : Dev nD × CK → ℕ) (c : Dev nD) (b : Bool) (O : CellTallies nD τ sig Unit) (Wt : Waits sig Unit) (k : PUnit → Code F) (Q : PUnit → sProp 𝕄) :
    iprop(records X W K ∗ owes (c : Thread nD τ) (O + tallyAt (barCell (frm b c)) () 1) Wt ∗ dutyTok ER (barCell (frm b c)) 0 b ∗ room (F := F) c b)
      ⊢ iprop((owes (c : Thread nD τ) O Wt -∗ WP c (k ⟨⟩) Q) -∗ WP c (.op (.semSignal (frm b c : Thread nD τ) barS (1#32).toNat) k) Q) := by
  have hd : b ∈ (ringRd X W).duties (barCell (frm b c)) 0 := by rw [duties_bar]; exact Finset.mem_univ _
  have hk : (ringRd X W).amount (barCell (frm b c)) 0 b = (1#32).toNat := (amount_bar X W (frm b c) b).trans (by decide)
  have hp : (ringRd X W).payload (barCell (frm b c)) 0 b = room (F := F) c b := by rw [payload_bar, tgt_frm]
  iintro ⟨#HR, HO, Ht, Hroom⟩ Hk
  iapply (Rounds.wp_signal 𝒱₀ ER (ringRd X W) (c : Thread nD τ) none (dst := (frm b c : Thread nD τ)) (κ := K (frm b c, none)) (d := b) hd hk () O rfl)
    $$ [HO Ht Hroom]
  · isplitr; · iapply (inv_at X W K (frm b c) none); iexact HR
    isplitl [HO]; · iexact HO
    isplitl [Ht]; · iexact Ht
    isplitl [Hroom]
    · iapply (show room (F := F) c b ⊢ (ringRd X W).payload ((frm b c : Thread nD τ), .reg barS) 0 b from Entails.of_eq hp.symm); iexact Hroom
    iapply (reached_at X W K (frm b c) none); iexact HR
  iexact Hk

/-- The wait for both neighbours, which brings the room on both. -/
theorem wp_handshake (K : Dev nD × CK → ℕ) (c : Dev nD) (Wt : Waits sig Unit) (k : PUnit → Code F) (Q : PUnit → sProp 𝕄) :
    iprop(records X W K ∗ levAts L lv ∗ cred (tallyAt (barCell c) () 2) ∗ owes (c : Thread nD τ) (OX c (From 0)) Wt ∗ atPos ER (barCell c) 0 ∅ 0)
      ⊢ iprop((iprop((∃ Wt, owes (c : Thread nD τ) (OX c (From 0)) Wt) ∗ semVal (barCell c) 0
            ∗ bigSep Finset.univ fun x : Xfer => pieceAny (F := F) (tgt x.1 c) x.1 (dstSlot x.2.1) x.2.2) -∗ WP c (k ⟨⟩) Q)
          -∗ WP c (.op (.semWait barS (2#32).toNat) k) Q) := by
  have he : 0 + (2#32).toNat = (ringRd X W).expect (barCell c) 0 := by rw [expect_bar]; decide
  iintro ⟨#HR, #Hlev, HcB, HO, HatB⟩ Hk
  iapply (Rounds.wp_wait_rest_token 𝒱₀ ER (ringRd X W) (c : Thread nD τ) none (κ := K (c, none))
      (wpE_semWait_eq 𝒱₀ (c : Thread nD τ) none Set.univ) (Set.mem_univ _) () (O := OX c (From 0)) (W := Wt) (R := 0) (m := 0) (T := ∅) he) $$ [HcB HO HatB]
  · isplitr; · iapply (inv_at X W K c none); iexact HR
    isplitl [HcB]; · iexact HcB
    isplitl [HO]; · iexact HO
    isplitr
    · iapply (mayWait_OX c (.reg barS) 0 1 (le_of_eq (lv_bar c ())) (by omega))
      iexact Hlev
    iexact HatB
  iintro ⟨HO, HatB, -, Hpay⟩
  imod (Rounds.cell_close ER (ringRd X W) (Set.mem_univ (K (c, none))) (fun h => h) (R := 0 + 1) (duties_later X W (barCell c))) $$ [HatB] with HzB
  · isplitr; · iapply (inv_at X W K c none); iexact HR
    iexact HatB
  iapply Hk
  isplitl [HO]; · iexists _; iexact HO
  isplitl [HzB]; · iexact HzB
  iapply (Entails.of_eq (rest_bar X W c))
  iexact Hpay

/-- What a device starts from besides the records: its positions, the duties it pays and its credits. -/
def linear (c : Dev nD) : sProp 𝕄 :=
  iprop((atPos ER (barCell c) 0 ∅ 0 ∗ (bigSep Finset.univ fun x : Xfer => atPos ER (sendCell c x) 0 ∅ 0) ∗ bigSep Finset.univ fun x : Xfer => atPos ER (recvCell c x) 0 ∅ 0)
    ∗ (dutyTok ER (barCell (frm false c)) 0 false ∗ dutyTok ER (barCell (frm true c)) 0 true)
    ∗ (bigSep Finset.univ fun x : Xfer => dutyTok ER (recvCell (tgt x.1 c) x) 0 false) ∗ bigSep Finset.univ fun x : Xfer => dutyTok ER (sendCell c x) 0 false)
def credits (c : Dev nD) : sProp 𝕄 :=
  iprop(cred (tallyAt (barCell c) () 2) ∗ bigSep Finset.univ fun x : Xfer => cred (tallyAt (recvCell c x) () N))

def bodyIn (c : Dev nD) : sProp 𝕄 :=
  iprop(linear (F := F) c ∗ credits (F := F) c ∗ (∃ Wt, owes (c : Thread nD τ) (O₀ c) Wt) ∗ (∃ f, commPts c false f) ∗ (∃ f, commPts c true f)
    ∗ inputs X W A B c ∗ ∃ g, outPts c g)
def bodyOut (c : Dev nD) : sProp 𝕄 := iprop(midPost X W A B c ∗ semVal (barCell c) 0)

set_option maxHeartbeats 800000 in
theorem wp_body (K : Dev nD × CK → ℕ) (c : Dev nD) (Q : PUnit → sProp 𝕄) :
    iprop(records X W K ∗ levAts L lv ∗ bodyIn X W A B c) ⊢ iprop((bodyOut X W A B c -∗ Q ⟨⟩) -∗ WP c ringBody Q) := by
  unfold ringBody
  simp only [semSignalWord, semWaitWord, Prog.lift, Prog.bind, Prog.bind_op, Prog.bind_ret, Prog.pure_eq_ret, wp_deviceId]
  unfold bodyIn linear credits
  iintro ⟨#HR, #Hlev, ⟨⟨HatB, HatS, HatV⟩, ⟨HtB0, HtB1⟩, HtV, HtS⟩, ⟨HcB, HcV⟩, ⟨%Wt, HO⟩, ⟨%f0, Hc0⟩, ⟨%f1, Hc1⟩, Hin, Hout⟩ Hk
  simp only [dev1_eq c, dev2_eq c]
  ihave Hc0' := (comm_split (F := F) c false f0) $$ Hc0
  icases Hc0' with ⟨Hroom0, Hsl0⟩
  ihave Hc1' := (comm_split (F := F) c true f1) $$ Hc1
  icases Hc1' with ⟨Hroom1, Hsl1⟩
  unfold O₀
  iapply (wp_signal_ring X W K c false (O₁ c) Wt _ Q) $$ [HO HtB0 Hroom0]
  · isplitr; · iexact HR
    isplitl [HO]; · iexact HO
    isplitl [HtB0] <;> iassumption
  iintro HO
  unfold O₁
  iapply (wp_signal_ring X W K c true (OX c (From 0)) Wt _ Q) $$ [HO HtB1 Hroom1]
  · isplitr; · iexact HR
    isplitl [HO]; · iexact HO
    isplitl [HtB1] <;> iassumption
  iintro HO
  iapply (wp_handshake X W K c Wt _ Q) $$ [HcB HO HatB]
  · isplitr; · iexact HR
    isplitr; · iexact Hlev
    isplitl [HcB]; · iexact HcB
    isplitl [HO] <;> iassumption
  iintro ⟨HO, HzB, Hp⟩
  iapply (wp_afterBarrier X W A B K c Q) $$ [HO HatS HatV HtV HtS HcV Hp Hsl0 Hsl1 Hin Hout]
  · isplitr; · iexact HR
    isplitr; · iexact Hlev
    unfold midPre sendState recvState pendC awaitC
    rw [From_zero, Upto_zero, bigSep_empty, bigSep_empty, bigSep_sep', bigSep_sep', bigSep_sep']
    isplitl [HO Hp HtV HtS]
    · isplitl [HO]; · iexact HO
      isplitl [Hp HtV HtS]
      · isplitl [Hp]; · iexact Hp
        isplitl [HtV] <;> iassumption
      iempintro
    isplitl [HatV HcV]
    · isplitl [HatV HcV]
      · isplitl [HatV] <;> iassumption
      iempintro
    isplitl [HatS]; · iexact HatS
    isplitl [Hsl0]; · iexists f0; iexact Hsl0
    isplitl [Hsl1]; · iexists f1; iexact Hsl1
    isplitl [Hin] <;> iassumption
  iintro Hpost
  iapply Hk
  unfold bodyOut
  isplitl [Hpost] <;> iassumption

end Cert.KernelIdeal.RingRS

end
-- ==== Proof.KernelIdeal.Ghost.lean ====
/-
# The state the launch deals out

Every cell's invariant is allocated once for all devices, the duties are dealt to the devices that pay them, and each
device is credited what its neighbours owe it.
-/
module

public import proofs.«01_k».proof.Proof.KernelIdeal.Body
public import Idealize.ShloMosaic.Lib.Pipeline.Launch
public import Idealize.ShloMosaic.Lib.Pipeline.Kit

@[expose] public section

noncomputable section

namespace Cert.KernelIdeal.RingRS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .fp8e4m3) (W : Dev nD → Vec F S256x2048 .fp8e5m2)

/-! ## Conjunctions over the cells of a device -/

theorem bigSep_dirs (Φ : Bool → sProp 𝕄) : bigSep Finset.univ Φ = iprop(Φ false ∗ Φ true) :=
  bigSep_univ_eq_bigSepL [false, true] (by decide) (by decide) Φ
theorem bigSep_dk (Φ : DK → sProp 𝕄) :
    bigSep Finset.univ Φ = iprop((bigSep Finset.univ fun x : Xfer => Φ (false, x)) ∗ bigSep Finset.univ fun x : Xfer => Φ (true, x)) := by
  rw [bigSep_univ_prod, bigSep_dirs]
theorem bigSep_ck (Φ : CK → sProp 𝕄) : bigSep Finset.univ Φ = iprop((bigSep Finset.univ fun k : DK => Φ (some k)) ∗ Φ none) := by
  rw [bigSep_univ_equiv (Equiv.optionEquivSumPUnit.{0,0} DK).symm, bigSep_univ_sum,
    bigSep_univ_eq_bigSepL [(PUnit.unit : PUnit.{1})] (by decide) (by decide)]
  rfl

/-! ## What is minted -/

theorem kcell_injective : Function.Injective fun p : Dev nD × CK => kcell p.1 p.2 := by
  rintro ⟨c, k⟩ ⟨c', k'⟩ h
  obtain ⟨rfl, rfl⟩ := kcell_inj h
  rfl
/-- The cells of all devices. -/
def ringCells : Finset (GSem nD τ sig) := Finset.univ.map ⟨_, kcell_injective⟩

/-- The duties of a device's cells: two of the handshake's, one of every other. -/
abbrev TK : Type := Bool ⊕ DK
def tokAt (p : Dev nD × TK) : GSem nD τ sig × ℕ × Bool := match p.2 with
  | .inl b => (barCell p.1, 0, b)
  | .inr k => (kcell p.1 (some k), 0, false)
theorem tokAt_injective : Function.Injective tokAt := by
  rintro ⟨c, b | k⟩ ⟨c', b' | k'⟩ h
  · obtain ⟨rfl, -⟩ := kcell_inj (congrArg Prod.fst h)
    have hb : b = b' := congrArg (fun q : GSem nD τ sig × ℕ × Bool => q.2.2) h
    rw [hb]
  · cases (kcell_inj (congrArg Prod.fst h)).2
  · cases (kcell_inj (congrArg Prod.fst h)).2
  · obtain ⟨rfl, hk⟩ := kcell_inj (congrArg Prod.fst h)
    rw [Option.some.inj hk]
def ringToks : Finset (GSem nD τ sig × ℕ × Bool) := Finset.univ.map ⟨tokAt, tokAt_injective⟩

def u₀ : UU :=
  (initOf (Pipeline.cells cfgs cellOf_inj) (Pipeline.launchToks cfgs cellOf_inj), initOf ringCells ringToks)

/-- The duties of device `c`'s own cells. -/
def toks (c : Dev nD) : sProp 𝕄 :=
  iprop((bigSep Finset.univ fun b : Bool => dutyTok ER (barCell c) 0 b) ∗ bigSep Finset.univ fun k : DK => dutyTok ER (kcell c (some k)) 0 false)

/-- The positions and the round marks of device `c`'s cells. -/
def marks (c : Dev nD) : sProp 𝕄 :=
  bigSep Finset.univ fun k : CK => iprop(atPos ER (kcell c k) 0 ∅ 0 ∗ reached ER (kcell c k) 0)

/-- What each device is dealt at first. -/
def G (c : Dev nD) : sProp 𝕄 :=
  iprop((bigSep Finset.univ fun k : CK => roundState ER (ringRd X W) (kcell c k) 0) ∗ marks (F := F) c ∗ toks (F := F) c)

/-- What it holds when the invariants stand. -/
def G' (c : Dev nD) : sProp 𝕄 := iprop(∃ K, records X W K ∗ linear (F := F) c)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : CK => Φ (kcell c k) := by
    unfold ringCells; rw [bigSep_map, bigSep_univ_prod]; rfl
  have hT : bigSep ringToks (fun q => (dutyTok ER q.1 q.2.1 q.2.2 : sProp 𝕄)) = bigSep Finset.univ fun c : Dev nD => toks c := by
    unfold ringToks
    rw [bigSep_map, bigSep_univ_prod]
    exact bigSep_congr fun c _ => by unfold toks; rw [bigSep_univ_sum]; rfl
  iintro HX
  imod (Rounds.fund ER (ringRd X W) ringCells ringToks) $$ HX with ⟨Hst, Hr, Hat, Htok⟩
  imodintro
  ihave Hst' := (Entails.of_eq (hX fun g => roundState ER (ringRd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G marks
  simp only [bigSep_sep']
  isplitl [Hst']; · iexact Hst'
  isplitl [Hat' Hr']
  · isplitl [Hat'] <;> iassumption
  iexact Htok'

/-! ## The invariants -/

theorem hdma : ∀ q : DmaSem sig, (SemLoc.dma q).isScoped .tc = true := by decide +kernel

theorem ownSemFacts : Pipeline.OwnSemFacts cfg0.spec osem where
  isScoped := fun k => hdma (dsem k)
  inj := fun k k' h => dsem_inj (by injection h)
  disj := fun k w s h => by
    have h' : dsem k = (cfg0.spec w).sem s := by injection h
    have hge := dsem_ge k
    have hlt : ∀ (w : Fin 5) (s : Fin (cfg0.spec w).nbuf), ((cfg0.spec w).sem s).val < 5 := by decide
    have := hlt w s
    rw [h'] at hge
    omega

/-- The runtime's barrier is the launch's only semaphore outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun x : Xfer => semVal (sendCell c x) 0) ∗ bigSep Finset.univ fun x : Xfer => semVal (recvCell c x) 0) := by
  unfold Pipeline.ownSems0
  exact bigSep_dk _

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [unscopedSems0_eq, bigSep_ck]
  exact BI.Entails.refl _

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : CK => iprop(∃ κ : ℕ, cellInv ER (ringRd X W) κ (kcell c k))) ∗ marks (F := F) c ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell c k) 0) ∗ bigSep Finset.univ fun k : CK => roundState ER (ringRd X W) (kcell c k) 0)
      ⊢ (|={Set.univ}=> bigSep Finset.univ fun k : CK => iprop(∃ κ : ℕ, cellInv ER (ringRd X W) κ (kcell c k)) : sProp 𝕄) from by
        rw [← bigSep_sep']
        exact (bigSep_mono fun k _ => (Rounds.body_intro ER (ringRd X W) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The duties a device pays: both neighbours' handshakes, the receiving cells it sends to, its own sending cells. -/
def payToks (c : Dev nD) : sProp 𝕄 :=
  iprop((dutyTok ER (barCell (frm false c)) 0 false ∗ dutyTok ER (barCell (frm true c)) 0 true)
    ∗ (bigSep Finset.univ fun x : Xfer => dutyTok ER (recvCell (tgt x.1 c) x) 0 false) ∗ bigSep Finset.univ fun x : Xfer => dutyTok ER (sendCell c x) 0 false)
/-- A device's positions. -/
def poss (c : Dev nD) : sProp 𝕄 := bigSep Finset.univ fun k : CK => atPos ER (kcell c k) 0 ∅ 0

theorem linear_of (c : Dev nD) : iprop(poss (F := F) c ∗ payToks (F := F) c) ⊢ linear (F := F) c := by
  unfold linear poss payToks
  rw [bigSep_ck, bigSep_dk]
  iintro ⟨⟨⟨HS, HV⟩, HB⟩, Ht⟩
  isplitl [HB HS HV]
  · isplitl [HB]; · iexact HB
    isplitl [HS] <;> iassumption
  iexact Ht

/-- Exchanging the two conjunctions: over all devices, one transfer's duty at the receiving end is one at the sending end. -/
theorem recv_around : (bigSep Finset.univ fun c : Dev nD => bigSep Finset.univ fun x : Xfer => (dutyTok ER (recvCell c x) 0 false : sProp 𝕄))
    = bigSep Finset.univ fun c : Dev nD => bigSep Finset.univ fun x : Xfer => dutyTok ER (recvCell (tgt x.1 c) x) 0 false := by
  have hswap (Φ : Dev nD → Xfer → sProp 𝕄) : (bigSep Finset.univ fun c => bigSep Finset.univ fun x => Φ c x) = bigSep Finset.univ fun x => bigSep Finset.univ fun c => Φ c x := by
    rw [← bigSep_univ_prod (fun p : Dev nD × Xfer => Φ p.1 p.2), bigSep_univ_equiv (Equiv.prodComm Xfer (Dev nD)), bigSep_univ_prod]
    rfl
  rw [hswap, hswap]
  exact bigSep_congr fun x _ => bigSep_univ_equiv (ringEquiv x.1) _

/-- The duties dealt around the ring. -/
theorem toks_around : (bigSep Finset.univ fun c : Dev nD => (toks c : sProp 𝕄)) ⊢ bigSep Finset.univ fun c : Dev nD => payToks c := by
  unfold toks payToks
  simp only [bigSep_dirs, bigSep_dk]
  simp only [bigSep_sep']
  rw [bigSep_univ_equiv (ringEquiv false).symm (fun c : Dev nD => (dutyTok ER (barCell c) 0 false : sProp 𝕄)),
    bigSep_univ_equiv (ringEquiv true).symm (fun c : Dev nD => (dutyTok ER (barCell c) 0 true : sProp 𝕄)), recv_around]
  iintro ⟨⟨H1, H2⟩, H3, H4⟩
  isplitl [H1 H2]
  · isplitl [H1]
    · iexact H1
    · iexact H2
  isplitl [H4]; · iexact H4
  iexact H3

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records X W K ∗ linear (F := F) c) ⊢ G' X W c := by
  unfold G'
  iintro H
  iexists K
  iexact H

theorem regroup :
    (bigSep Finset.univ fun c : Dev nD => iprop((bigSep Finset.univ fun k : CK => iprop(∃ κ : ℕ, cellInv ER (ringRd X W) κ (kcell c k))) ∗ marks (F := F) c ∗ toks (F := F) c) : sProp 𝕄)
      ⊢ bigSep Finset.univ (G' X W) := by
  have hm : (bigSep Finset.univ fun c : Dev nD => (marks (F := F) c : sProp 𝕄))
      = iprop((bigSep Finset.univ fun c : Dev nD => poss (F := F) c) ∗ bigSep Finset.univ fun p : Dev nD × CK => reached ER (kcell p.1 p.2) 0) := by
    rw [bigSep_univ_prod (fun p : Dev nD × CK => (reached ER (kcell p.1 p.2) 0 : sProp 𝕄)), ← bigSep_sep']
    exact bigSep_congr fun c _ => by unfold marks poss; rw [bigSep_sep']
  rw [bigSep_sep', bigSep_sep', hm, ← bigSep_univ_prod (fun p : Dev nD × CK => iprop(∃ κ : ℕ, cellInv ER (ringRd X W) κ (kcell p.1 p.2)))]
  iintro ⟨HI, ⟨Hat, #HR⟩, Htok⟩
  ihave HK := (BI.bigSep_exists_pi Finset.univ (fun (p : Dev nD × CK) (κ : ℕ) => (cellInv ER (ringRd X W) κ (kcell p.1 p.2) : sProp 𝕄))) $$ HI
  icases HK with ⟨%K, #HI⟩
  ihave Htk := (toks_around (F := F)) $$ Htok
  iapply (bigSep_with (R := records X W K) (Φ := fun c => linear (F := F) c) fun c _ => ghost_intro X W K c)
  isplitr
  · unfold records
    isplitl
    · iexact HI
    · iexact HR
  · iapply ((Entails.of_eq (bigSep_sep' Finset.univ (fun c : Dev nD => poss (F := F) c) payToks).symm).trans (bigSep_mono fun c _ => linear_of (F := F) c))
    isplitl [Hat]; · iexact Hat
    iexact Htk

/-- The semaphores of every device at once: the invariants of all cells stand. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credits -/

theorem cell_ne (c c' : Dev nD) {k k' : CK} (h : k ≠ k') : kcell c k ≠ kcell c' k' := fun e => h (kcell_inj e).2

/-- Device `d` owes device `c`'s handshake a unit if it is a neighbour on one side, one if it is on the other. -/
theorem owed_bar (d c : Dev nD) : O₀ d (barCell c) () = (if d = tgt true c then 1 else 0) + (if d = tgt false c then 1 else 0) := by
  have h1 (b : Bool) : (barCell c = barCell (frm b d)) = (d = tgt b c) := propext
    ⟨fun h => by rw [(kcell_inj h).1, tgt_frm], fun h => by rw [h, frm_tgt]⟩
  rw [O₀_apply, OX_apply, Finset.sum_eq_zero fun x _ => if_neg (cell_ne c _ (by simp)), zero_add]
  simp only [h1]

/-- Device `d` owes device `c`'s receiving cell its piece if it is the one that sends there. -/
theorem owed_recv (d c : Dev nD) (x : Xfer) : O₀ d (recvCell c x) () = if d = frm x.1 c then N else 0 := by
  rw [O₀_apply, OX_apply, if_neg (cell_ne c _ (by simp)), if_neg (cell_ne c _ (by simp)), add_zero, add_zero, From_zero,
    Finset.sum_eq_single x]
  · have h1 : (recvCell c x = recvCell (tgt x.1 d) x) = (d = frm x.1 c) := propext
      ⟨fun h => by rw [(kcell_inj h).1, frm_tgt], fun h => by rw [h, tgt_frm]⟩
    simp only [h1]
  · intro y _ hy
    exact if_neg (cell_ne c _ fun h => hy (by injection h with h; injection h with _ h; exact h.symm))
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (tgt true c) fun _ => 1, Finset.sum_ite_eq' Finset.univ (tgt false c) fun _ => 1, if_pos (Finset.mem_univ _), if_pos (Finset.mem_univ _)]

theorem launch_recv (c : Dev nD) (x : Xfer) :
    tallyOn (recvCell c x) (launchCredit (Pipeline.owing O₀) 0 (recvCell c x)) = (tallyAt (recvCell c x) () N : CellTallies nD τ sig Unit) := by
  unfold tallyAt
  refine congrArg _ (Finsupp.ext fun u => ?_)
  cases u
  rw [Pipeline.launchCredit_owing, Finsupp.single_eq_same, Finset.sum_congr rfl fun d _ => owed_recv d c x, Finset.sum_ite_eq' Finset.univ (frm x.1 c) fun _ => N,
    if_pos (Finset.mem_univ _)]

/-- The launch's credit holds what the body spends. -/
theorem creds (c : Dev nD) : (Pipeline.launchCred O₀ c : sProp 𝕄) ⊢ credits (F := F) c := by
  unfold Pipeline.launchCred credits
  rw [bigSep_univ_at _ (csem none), launch_bar]
  refine sep_mono_right ?_
  have hinj : Function.Injective fun x : Xfer => csem (some (true, x)) := fun x y h => by
    injection csem_inj h with h; injection h
  have hsub : Finset.univ.map ⟨_, hinj⟩ ⊆ Finset.univ.erase (csem none) := fun sm h => by
    obtain ⟨x, -, rfl⟩ := Finset.mem_map.mp h
    exact Finset.mem_erase.mpr ⟨fun e => (by cases csem_inj (a₁ := some (true, x)) (a₂ := none) e), Finset.mem_univ _⟩
  refine (bigSep_subset hsub).trans ?_
  rw [bigSep_map]
  exact Entails.of_eq (bigSep_congr fun x _ => congrArg cred (launch_recv c x))

end Cert.KernelIdeal.RingRS

end
-- ==== Proof.KernelIdeal.Launch.lean ====
/-
# The run of the kernel on the sixteen devices
-/
module

public import proofs.«01_k».proof.Proof.KernelIdeal.Ghost
public import proofs.«01_k».proof.Proof.Gen.KernelIdeal.Frame
public import Idealize.ShloMosaic.Lib.Pipeline.ValueKit
public import Idealize.ShloMosaic.Lib.Pipeline.CollectiveSegs

@[expose] public section

noncomputable section

namespace Cert.KernelIdeal.RingRS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- What a device's four arguments hold when the body starts. -/
def xIn (c : Dev nD) : Vec F S4096x256 .fp8e4m3 := (win0_0.blk t0_0).view.read (Elt F) (m ((c : Thread nD τ).loc main_arg0))
def wIn (c : Dev nD) : Vec F S256x2048 .fp8e5m2 := (win0_1.blk t0_0).view.read (Elt F) (m ((c : Thread nD τ).loc main_arg1))
def aIn (c : Dev nD) : Vec F S1 .f32 := (win0_2.blk t0_0).view.read (Elt F) (m ((c : Thread nD τ).loc main_arg2))
def bIn (c : Dev nD) : Vec F S1 .f32 := (win0_3.blk t0_0).view.read (Elt F) (m ((c : Thread nD τ).loc main_arg3))
/-- What its result holds at the end. -/
def resIn (c : Dev nD) : FVec F S256x2048 .f32 := resAt (xIn m) (wIn m) (aIn m) (bIn m) c

/-! ## The proof data -/

def start (c : Dev nD) : sProp 𝕄 := iprop(G' (xIn m) (wIn m) c ∗ credits (F := F) c ∗ levAts L lv)
/-- Before the body and after it. -/
def Φ₀ (c : Dev nD) : sProp 𝕄 := iprop(start m c ∗ (∃ f, commPts (F := F) c false f) ∗ ∃ f, commPts (F := F) c true f)
def Φ₁ (c : Dev nD) : sProp 𝕄 :=
  iprop((∃ f, commPts (F := F) c false f) ∗ (∃ f, commPts (F := F) c true f)
    ∗ ((bigSep Finset.univ fun x : Xfer => semVal (sendCell c x) 0) ∗ bigSep Finset.univ fun x : Xfer => semVal (recvCell c x) 0)
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => aIn m c
    | ⟨3, _⟩ => bIn m c
    | ⟨4, _⟩ => resIn m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_out (c : Dev nD) (b : Ref sig .tc) (v : b.ty.Contents (Elt F)) :
    iprop(∃ f : Buf (Elt F) ((c : Thread nD τ).loc b), ⌜f = v⌝ ∗ (((c : Thread nD τ).loc b) ↦{fullShare} f)) ⊢ (((c : Thread nD τ).loc b) ↦{fullShare} v : sProp 𝕄) := by
  iintro ⟨%f, %hf, H⟩
  rw [← hf]
  iexact H
theorem owns_in (c : Dev nD) (b : Ref sig .tc) (v : b.ty.Contents (Elt F)) :
    (((c : Thread nD τ).loc b) ↦{fullShare} v : sProp 𝕄) ⊢ iprop(∃ f : Buf (Elt F) ((c : Thread nD τ).loc b), ⌜f = v⌝ ∗ (((c : Thread nD τ).loc b) ↦{fullShare} f)) := by
  iintro H
  iexists v
  isplitr; · (ipureintro; rfl)
  iexact H
/-- Owning a whole buffer at `v` is holding it at `v`. -/
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = (((c : Thread nD τ).loc b) ↦{fullShare} v) := by
  unfold owns
  simp only [Memref.view_whole, View.read_whole, View.set_whole]
  exact BI.Entails.antisymm (owns_out c b v) (owns_in c b v)

theorem fetch_in (w : Fin 5) (h : w.val < 4) : (cfg0.win w).fetch t0_0 = true := by revert w; decide

theorem before_x (c : Dev nD) (d) : (dats m 0 c).before (0 : Fin 5) t0_0 d = xIn m c := by unfold Dat.before; rw [if_pos (fetch_in 0 (by decide))]; rfl
theorem before_w (c : Dev nD) (d) : (dats m 0 c).before (1 : Fin 5) t0_0 d = wIn m c := by unfold Dat.before; rw [if_pos (fetch_in 1 (by decide))]; rfl
theorem before_a (c : Dev nD) (d) : (dats m 0 c).before (2 : Fin 5) t0_0 d = aIn m c := by unfold Dat.before; rw [if_pos (fetch_in 2 (by decide))]; rfl
theorem before_b (c : Dev nD) (d) : (dats m 0 c).before (3 : Fin 5) t0_0 d = bIn m c := by unfold Dat.before; rw [if_pos (fetch_in 3 (by decide))]; rfl

/-! ## The body -/

def bodyPre (c : Dev nD) : sProp 𝕄 :=
  iprop(Φ₀ m c ∗ (dats m 0 c).owesAt () t0_0.castSucc
    ∗ (∃ d : (cc0_stg0_0 : Ref sig .tc).ty.Contents (Elt F), xPts c ((dats m 0 c).before (0 : Fin 5) t0_0 d))
    ∗ (∃ d : (cc0_stg1_0 : Ref sig .tc).ty.Contents (Elt F), wPts c ((dats m 0 c).before (1 : Fin 5) t0_0 d))
    ∗ (∃ d : (cc0_stg2_0 : Ref sig .tc).ty.Contents (Elt F), sxPts c ((dats m 0 c).before (2 : Fin 5) t0_0 d))
    ∗ (∃ d : (cc0_stg3_0 : Ref sig .tc).ty.Contents (Elt F), swPts c ((dats m 0 c).before (3 : Fin 5) t0_0 d))
    ∗ (∃ d : (cc0_stg4_0 : Ref sig .tc).ty.Contents (Elt F), outPts c ((dats m 0 c).before (4 : Fin 5) t0_0 d)))
def bodyPost (c : Dev nD) : sProp 𝕄 :=
  iprop(Φ₁ (F := F) c ∗ (dats m 0 c).owesAt () t0_0.succ
    ∗ xPts c (xIn m c) ∗ wPts c (wIn m c) ∗ sxPts c (aIn m c) ∗ swPts c (bIn m c) ∗ outPts c (resIn m c))

theorem sound_body (c : Dev nD) : bodyPre m c ⊢ WP c ringBody (fun _ => bodyPost m c) := by
  unfold bodyPre Φ₀ start G' bodyPost Φ₁
  simp only [before_x, before_w, before_a, before_b]
  iintro ⟨⟨⟨⟨%K, #HR, Hlin⟩, Hcr, #Hlev⟩, Hc0, Hc1⟩, Ho, ⟨%d0, Hx⟩, ⟨%d1, Hw⟩, ⟨%d2, Ha⟩, ⟨%d3, Hb⟩, %d4, Hout⟩
  unfold Dat.owesAt Pipeline.owesWithin
  icases Ho with ⟨%Wt, %hW, HO⟩
  rw [show (dats m 0 c).owed t0_0.castSucc = O₀ c from rfl, show (dats m 0 c).owed t0_0.succ = 0 from rfl]
  iapply (wp_body (xIn m) (wIn m) (aIn m) (bIn m) K c _) $$ [Hlin Hcr Hc0 Hc1 HO Hx Hw Ha Hb Hout]
  · isplitr; · iexact HR
    isplitr; · iexact Hlev
    unfold bodyIn inputs
    isplitl [Hlin]; · iexact Hlin
    isplitl [Hcr]; · iexact Hcr
    isplitl [HO]; · (iexists Wt; iexact HO)
    isplitl [Hc0]; · iexact Hc0
    isplitl [Hc1]; · iexact Hc1
    isplitl [Hx Hw Ha Hb]
    · isplitl [Hx]; · iexact Hx
      isplitl [Hw]; · iexact Hw
      isplitl [Ha] <;> iassumption
    iexists _
    iexact Hout
  unfold bodyOut midPost inputs
  iintro ⟨⟨⟨%Wt', HO⟩, HV, HS, Hc0, Hc1, ⟨Hx, Hw, Ha, Hb⟩, Hout⟩, HB⟩
  isplitl [Hc0 Hc1 HV HS HB]
  · isplitl [Hc0]; · iexact Hc0
    isplitl [Hc1]; · iexact Hc1
    isplitl [HV HS]
    · isplitl [HS] <;> iassumption
    iexact HB
  isplitl [HO]
  · iexists Wt'
    isplitr; · (ipureintro; exact fun _ _ => Or.inl trivial)
    iexact HO
  isplitl [Hx]; · iexact Hx
  isplitl [Hw]; · iexact Hw
  isplitl [Ha]; · iexact Ha
  isplitl [Hb]; · iexact Hb
  iexact Hout

set_option maxRecDepth 100000 in
/-- The body of the one grid point, on every device. -/
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ WP c (cc0_body xM (Memref.isWhole_whole _) wM (Memref.isWhole_whole _) sxM (Memref.isWhole_whole _) swM (Memref.isWhole_whole _)
    outM (Memref.isWhole_whole _) (Memref.whole cc0_scratch0) (Memref.isWhole_whole _) (Memref.whole cc0_scratch1) (Memref.isWhole_whole _)
    cc0_scratch2 cc0_scratch3 cc0_scratch4 cc0_scratch5) (fun _ => bodyPost m c)
  rw [body_eq]
  exact sound_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem comm_whole (c : Dev nD) : (Pipeline.scopedRest cfg0.spec c : sProp 𝕄)
    = iprop((∃ f, commPts (F := F) c false f) ∗ ∃ f, commPts (F := F) c true f) := by
  have h0 : (View.whole cc0_scratch0).set = Finset.univ := View.set_whole _
  have h1 : (View.whole cc0_scratch1).set = Finset.univ := View.set_whole _
  rw [scopedRest0_eq]
  unfold commPts
  show _ = iprop((∃ f : Buf (Elt F) ((c : Thread nD τ).loc cc0_scratch0), ((c : Thread nD τ).loc cc0_scratch0) ↦[(View.whole cc0_scratch0).set]{fullShare} f)
    ∗ ∃ f : Buf (Elt F) ((c : Thread nD τ).loc cc0_scratch1), ((c : Thread nD τ).loc cc0_scratch1) ↦[(View.whole cc0_scratch1).set]{fullShare} f)
  rw [h0, h1]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, comm_whole]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, comm_whole, ownSems0_eq, unscopedSems0_eq]
  unfold Φ₁
  iintro ⟨H0, H1, Hz, HB⟩
  isplitl [HB]; · iexact HB
  isplitl [Hz]; · iexact Hz
  isplitl [H0] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m 0 c).arrAt w cfg0.N

set_option maxRecDepth 100000 in
/-- Every fair execution ends; each window's array then holds `finalA`, and every semaphore counter is zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xIn m) (wIn m)) (G' := G' (xIn m) (wIn m)) (u₀ := u₀)
    (hu₀ := by
      unfold u₀
      iintro Hu
      ihave H := (ownU_pair _ _) $$ Hu
      icases H with ⟨HP, HX⟩
      imod (fund_ring (xIn m) (wIn m)) $$ HX with HG
      imodintro
      isplitl [HP] <;> iassumption)
    (hglob := glob (xIn m) (wIn m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- A window's block is its whole array. -/
theorem idx2 : win0_0.index t0_0 = ![0, 0] ∧ win0_1.index t0_0 = ![0, 0] := by decide +kernel
theorem idx1 : win0_2.index t0_0 = ![0] ∧ win0_3.index t0_0 = ![0] := by decide +kernel
theorem xIn_eq (c : Dev nD) : xIn m c = m ((c : Thread nD τ).loc main_arg0) := by
  blk_ext! [xIn, idx2]
theorem wIn_eq (c : Dev nD) : wIn m c = m ((c : Thread nD τ).loc main_arg1) := by
  blk_ext! [wIn, idx2]
theorem aIn_eq (c : Dev nD) : aIn m c = m ((c : Thread nD τ).loc main_arg2) := by
  blk_ext! [aIn, idx1]
theorem bIn_eq (c : Dev nD) : bIn m c = m ((c : Thread nD τ).loc main_arg3) := by
  blk_ext! [bIn, idx1]

theorem final_out (c : Dev nD) : finalA m c (4 : Fin 5) = resIn m c := by
  refine (dats m 0 c).arrAt_eq_of_after_last 4 t0_0 (by decide +kernel) _ fun j => ?_
  rfl

/-- The run's end read at the arguments and the result. -/
theorem run_values : θ_run defs (onTc (τ := τ) (main (F := F))) ⟨m, fun _ => 0, ρ⟩
    (fun r => (∀ c : Dev nD, r.2.mem ((c : Thread nD τ).loc main_v1) = resIn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 4).trans (final_out m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _)⟩, h.2⟩) (run_main m ρ)

end Cert.KernelIdeal.RingRS

end
-- ==== Proof.Value.Ring.lean ====
/-
# What arrives over the ring

Over the extended reals a piece that has travelled `s` steps is the sum of the parts of the `s + 1` devices it has
passed, and after a full turn the sum over all devices.
-/
module

public import proofs.«01_k».proof.Proof.KernelIdeal.Contents
public import Idealize.ShloMosaic.Lib.ValueIdx

@[expose] public section

noncomputable section

namespace Cert.KernelIdeal.RingRS

open Cert.KernelIdeal Cert.KernelIdeal.Gen
open Idealize.ShloMosaic Idealize.ShloMosaic.TcCoe

variable (X : Dev nD → Vec Ideal S4096x256 .fp8e4m3) (W : Dev nD → Vec Ideal S256x2048 .fp8e5m2) (sx sw : Dev nD → Ideal .f32)

/-- A neighbour's chunk one step earlier is the device's own chunk now. -/
theorem blk_frm (d : Bool) (c : Dev nD) (s : ℕ) (hs : s ≤ 14) : blk d (frm d c) s = blk d c (s + 1) := by
  have hc : c.val < 16 := c.isLt
  cases d
  · refine Fin.ext ?_
    show ((c.val + 15) % 16 + 31 - s) % 16 = (c.val + 31 - (s + 1)) % 16
    omega
  · refine Fin.ext ?_
    show ((c.val + 1) % 16 + 1 + s) % 16 = (c.val + 1 + (s + 1)) % 16
    omega

/-- The chunk a device adds last is its own. -/
theorem blk_last : ∀ (d : Bool) (c : Dev nD), blk d c 15 = c := by decide

/-- Going round the ring meets each device once. -/
theorem turn_bijective : ∀ (d : Bool) (c : Dev nD), Function.Bijective fun t : Fin 16 => (frm d)^[t.val] c := by
  intro d c
  refine Function.Injective.bijective_of_finite ?_
  revert d c
  unfold Function.Injective
  decide +kernel

/-- So a sum along one turn is the sum over the devices. -/
theorem sum_turn {M : Type} [AddCommMonoid M] (d : Bool) (c : Dev nD) (f : Dev nD → M) :
    ∑ t ∈ Finset.range 16, f ((frm d)^[t] c) = ∑ p : Dev nD, f p := by
  rw [Finset.sum_range]
  exact (turn_bijective d c).sum_comp f

/-- Device `p`'s part of rows `128 j …` of chunk `k`. -/
def rowsPart (d : Bool) (j : Fin 2) (k : Fin 16) (p : Dev nD) : FVec Ideal S128x1024 .bf16 := rowsOf j (partV (X p) (W p) d k)

/-- After `s` steps a piece holds the parts of the last `s + 1` devices. -/
theorem sentV_sum (d : Bool) (j : Fin 2) (i : S128x1024.Idx) : ∀ (s : ℕ) (_ : s ≤ 15) (c : Dev nD),
    (sentV X W d j s c i : EReal) = ∑ t ∈ Finset.range (s + 1), (rowsPart X W d j (blk d c s) ((frm d)^[t] c) i : EReal)
  | 0, _, c => by rw [Finset.sum_range_one]; rfl
  | s + 1, hs, c => by
    rw [Finset.sum_range_succ']
    show (sentV X W d j s (frm d c) i : EReal) + rowsOf j (preV X W d c (s + 1)) i = _
    rw [sentV_sum d j i s (by omega) (frm d c), blk_frm d c s (by omega)]
    rfl

/-- What a device adds up last: the parts of all devices of its own chunk. -/
theorem total_sum (d : Bool) (j : Fin 2) (c : Dev nD) (i : S128x1024.Idx) :
    (sentV X W d j 15 c i : EReal) = ∑ p : Dev nD, (rowsPart X W d j c p i : EReal) := by
  rw [sentV_sum X W d j i 15 le_rfl c, blk_last]
  exact sum_turn d c fun p => (rowsPart X W d j c p i : EReal)

/-- The activation of one element. -/
def actOf (scale acc : Ideal .f32) : Ideal .f32 :=
  have y : Ideal .f32 := FloatOps.mulf acc scale
  FloatOps.divf y (FloatOps.addf (Scalar.ofBits .f32 0x3F800000#32) (FloatOps.exp (FloatOps.subf (Scalar.ofBits .f32 0x00000000#32)
    (FloatOps.minimumf (Scalar.ofBits .f32 0x42700000#32) (FloatOps.maximumf (Scalar.ofBits .f32 0xC2700000#32) y)))))

theorem actVal_apply (scale : Ideal .f32) (acc : FVec Ideal S128x1024 .f32) (i : S128x1024.Idx) :
    actVal scale acc i = actOf scale (acc i) := rfl

/-- A quarter of the result, element by element. -/
theorem quarterV_apply (d : Bool) (j : Fin 2) (c : Dev nD) (i : S128x1024.Idx) :
    quarterV X W sx sw d j c i = actOf (Scalar.mulf (sx c) (sw c)) (∑ p : Dev nD, (rowsPart X W d j c p i : EReal)) := by
  rw [← total_sum]
  rfl

end Cert.KernelIdeal.RingRS

end
-- ==== Proof.Value.Block.lean ====
/-
# What one block computes

The partial product of a chunk of rows and a half of the columns, element by element: a sum over the 256 columns of `x`
that the device holds.
-/
module

public import proofs.«01_k».proof.Proof.Value.Ring
public import Idealize.ShloMosaic.Lib.MatmulPlain
public import Idealize.ShloMosaic.Lib.Pipeline.Value

@[expose] public section

noncomputable section

namespace Cert.KernelIdeal.RingRS

open Cert.KernelIdeal Cert.KernelIdeal.Gen
open Idealize.ShloMosaic Idealize.ShloMosaic.TcCoe Idealize.ShloMosaic.ValueIdx

variable (x : Vec Ideal S4096x256 .fp8e4m3) (w : Vec Ideal S256x2048 .fp8e5m2)

theorem dot_plain : dot_S256x256_S256x1024_S256x1024_1_0_0_1_n_n = DotDims.plain 256 256 1024 := rfl

/-- A product of two blocks. -/
theorem chunkVal_apply (xv : Vec Ideal S256x256 .fp8e4m3) (wv : Vec Ideal S256x1024 .fp8e5m2) (r : Fin 256) (q : Fin 1024) :
    (chunkVal xv wv (ix2 r q) : EReal) = ∑ k : Fin 256, (xv (ix2 r k) : EReal) * wv (ix2 k q) := by
  unfold chunkVal
  rw [shapeCast_self, shapeCast_self, dot_plain]
  refine (Ideal.matmul_plain_apply (φ₁ := .fp8e4m3) (φ₂ := .fp8e5m2) none xv wv _ r q).trans ?_
  rw [constant_apply, Ideal.ofBits_zero_f32, zero_add]

/-- The rows of chunk `k`, and the columns of a half, as elements of the whole arrays. -/
theorem xRows_apply (k : Fin 16) (r : Fin 256) (a : Fin 256) :
    xRows x k (ix2 r a) = x (ix2 ⟨256 * k.val + r.val, by omega⟩ a) := by
  unfold xRows
  congr 1
  funext b
  match b with
  | 0 => exact Fin.ext (by show 256 * k.val + 1 * r.val = 256 * k.val + r.val; omega)
  | 1 => exact Fin.ext (by show 0 + 1 * a.val = a.val; omega)

theorem wCols_apply (d : Bool) (a : Fin 256) (q : Fin 1024) :
    wCols w d (ix2 a q) = w (ix2 a ⟨(bif d then 1024 else 0) + q.val, by cases d <;> simp only [cond_true, cond_false] <;> omega⟩) := by
  unfold wCols
  congr 1
  funext b
  match b with
  | 0 => exact Fin.ext (by show 0 + 1 * a.val = a.val; omega)
  | 1 => exact Fin.ext (by show (bif d then 1024 else 0) + 1 * q.val = (bif d then 1024 else 0) + q.val; omega)

/-- Half of a chunk's rows. -/
theorem rowsOf_apply (j : Fin 2) (v : FVec Ideal S256x1024 .bf16) (r : Fin 128) (q : Fin 1024) :
    rowsOf j v (ix2 r q) = v (ix2 ⟨128 * j.val + r.val, by omega⟩ q) := by
  unfold rowsOf
  refine extractStridedSlice_apply _ _ _ _ _ fun b => ?_
  match b with
  | 0 => rfl
  | 1 => exact (Nat.zero_add _).symm

variable (X : Dev nD → Vec Ideal S4096x256 .fp8e4m3) (W : Dev nD → Vec Ideal S256x2048 .fp8e5m2)

/-- A device's part of one element of the result. -/
theorem rowsPart_apply (d : Bool) (j : Fin 2) (k : Fin 16) (p : Dev nD) (r : Fin 128) (q : Fin 1024) :
    (rowsPart X W d j k p (ix2 r q) : EReal) = ∑ a : Fin 256, (X p (ix2 ⟨256 * k.val + (128 * j.val + r.val), by omega⟩ a) : EReal)
      * W p (ix2 a ⟨(bif d then 1024 else 0) + q.val, by cases d <;> simp only [cond_true, cond_false] <;> omega⟩) := by
  unfold rowsPart partV
  rw [rowsOf_apply, chunkVal_apply]
  exact Finset.sum_congr rfl fun a _ => by rw [xRows_apply, wCols_apply]

end Cert.KernelIdeal.RingRS

end
-- ==== Proof.Value.Reference.lean ====
/-
# What the reference computes

Its one array after the run is the activation of the scaled product of the whole `x` and the whole `w`; each element of
the product is a sum over 4096 columns of `x`, here cut into the 16 devices' 256 columns each.
-/
module

public import proofs.«01_k».proof.Proof.Value.Ring
public import proofs.«01_k».proof.Proof.Gen.ReferenceIdeal.Value
public import Idealize.ShloMosaic.Lib.MatmulPlain
public import Idealize.ShloMosaic.Lib.Pipeline.ValueKit
public import Idealize.ShloMosaic.Lib.Pipeline.ReadBack

@[expose] public section

noncomputable section

namespace Cert.ReferenceIdeal.Whole

open Cert.ReferenceIdeal Cert.ReferenceIdeal.Gen
open Idealize.ShloMosaic Idealize.ShloMosaic.TcCoe
open Idealize.ShloMosaic.ValueIdx (constant_apply)
open Idealize.ShloMosaic.Pipeline (Dat)
open Cert.KernelIdeal.RingRS (actOf)

variable (m : (ℓ : Loc nD τ sig) → Buf (Elt Ideal) ℓ)

/-! ## The array after the run -/

theorem idx4 : ∀ t : Fin cfg0.N, win0_0.index t = ![0, 0] ∧ win0_1.index t = ![0, 0] ∧ win0_2.index t = ![0] ∧ win0_3.index t = ![0]
    ∧ win0_4.index t = ![0, 0] := by decide +kernel

theorem blk0 (c : Dev nD) : iblk m c 0 t0_0 = m ((c : Thread nD τ).loc main_arg0) := by blk_ext! [iblk, V, idx4 t0_0]
theorem blk1 (c : Dev nD) : iblk m c 1 t0_0 = m ((c : Thread nD τ).loc main_arg1) := by blk_ext! [iblk, V, idx4 t0_0]
theorem blk2 (c : Dev nD) : iblk m c 2 t0_0 = m ((c : Thread nD τ).loc main_arg2) := by blk_ext! [iblk, V, idx4 t0_0]
theorem blk3 (c : Dev nD) : iblk m c 3 t0_0 = m ((c : Thread nD τ).loc main_arg3) := by blk_ext! [iblk, V, idx4 t0_0]

/-- The one number of a scale array. -/
def one (a : Vec Ideal S1 .f32) : Ideal .f32 := a (fun | 0 => ⟨0, Nat.one_pos⟩)

theorem one_eq (a : Vec Ideal S1 .f32) (i : S1.Idx) : a i = one a :=
  congrArg a (funext fun b => match b with | 0 => Fin.ext (by have h : (i 0).val < 1 := (i 0).isLt; show (i 0).val = 0; omega))

/-- The reference's result. -/
def refOf (c : Dev nD) : FVec Ideal S4096x2048 .f32 :=
  k0_pay1 (m ((c : Thread nD τ).loc main_arg0)) (m ((c : Thread nD τ).loc main_arg1)) (one (m ((c : Thread nD τ).loc main_arg2)))
    (one (m ((c : Thread nD τ).loc main_arg3)))

theorem final (c : Dev nD) : (dats m 0 c).arrAt 4 cfg0.N = refOf m c := by
  refine (dats m 0 c).arrAt_eq_of_after_last 4 t0_0 (by decide +kernel) _ fun j => ?_
  blk_simp
  rw [after0_4]
  unfold outsAt0
  frame_out
  rw [blk0, blk1, blk2, blk3]
  simp only [read_unread_whole]
  exact congrFun (congrArg₂ (k0_pay1 _ _) (one_eq _ _) (one_eq _ _)) j

/-! ## Its elements -/

theorem dot_plain : dot_S4096x4096_S4096x2048_S4096x2048_1_0_0_1_n_n = DotDims.plain 4096 4096 2048 := rfl

/-- A sum over the 4096 columns, device by device. -/
theorem sum_devices (f : Fin 4096 → EReal) : ∑ k : Fin 4096, f k = ∑ p : Fin 16, ∑ a : Fin 256, f ⟨p.val * 256 + a.val, by omega⟩ := by
  rw [← Equiv.sum_comp (finProdFinEquiv (m := 16) (n := 256)) f, Fintype.sum_prod_type]
  refine Finset.sum_congr rfl fun p _ => Finset.sum_congr rfl fun a _ => congrArg f (Fin.ext ?_)
  show a.val + 256 * p.val = p.val * 256 + a.val
  omega

/-- An element of the result. -/
theorem pay_apply (x : Vec Ideal S4096x4096 .fp8e4m3) (w : Vec Ideal S4096x2048 .fp8e5m2) (a b : Ideal .f32) (r : Fin 4096) (q : Fin 2048) :
    k0_pay1 x w a b (ValueIdx.ix2 r q) = actOf (Scalar.mulf a b)
      (∑ p : Fin 16, ∑ k : Fin 256, (x (ValueIdx.ix2 r ⟨p.val * 256 + k.val, by omega⟩) : EReal) * w (ValueIdx.ix2 ⟨p.val * 256 + k.val, by omega⟩ q)) := by
  rw [← sum_devices fun k => (x (ValueIdx.ix2 r k) : EReal) * w (ValueIdx.ix2 k q)]
  have e : ((matmul dot_S4096x4096_S4096x2048_S4096x2048_1_0_0_1_n_n (φ₁ := .fp8e4m3) (φ₂ := .fp8e5m2) none x w
      (constant S4096x2048 .f32 0x00000000#32) : FVec Ideal S4096x2048 .f32) (ValueIdx.ix2 r q) : EReal) = ∑ k : Fin 4096, (x (ValueIdx.ix2 r k) : EReal) * w (ValueIdx.ix2 k q) := by
    rw [dot_plain]
    refine (Ideal.matmul_plain_apply (φ₁ := .fp8e4m3) (φ₂ := .fp8e5m2) none x w _ r q).trans ?_
    rw [constant_apply, Ideal.ofBits_zero_f32, zero_add]
  rw [← e]
  rfl

end Cert.ReferenceIdeal.Whole

end
-- ==== Proof.Value.Equation.lean ====
/-
# The equation

When every device holds its columns of `x` and its rows of `w`, a device's result is its rows of the reference's array.
-/
module

public import proofs.«01_k».proof.Proof.Value.Block
public import proofs.«01_k».proof.Proof.Value.Reference
public import proofs.«01_k».proof.Proof.KernelIdeal.Pieces

@[expose] public section

noncomputable section

namespace Cert.KernelIdeal.RingRS

open Cert.KernelIdeal Cert.KernelIdeal.Gen
open Idealize.ShloMosaic Idealize.ShloMosaic.TcCoe

variable (X : Dev nD → Vec Ideal S4096x256 .fp8e4m3) (W : Dev nD → Vec Ideal S256x2048 .fp8e5m2) (sx sw : Dev nD → Ideal .f32)
variable (x : Vec Ideal ⟨2, ![4096, 4096]⟩ .fp8e4m3) (w : Vec Ideal ⟨2, ![4096, 2048]⟩ .fp8e5m2) (a b : Ideal .f32)

/-- An element of the result lies in the quarter its row and its column name. -/
theorem outAt_apply (c : Dev nD) (r : Fin 256) (q : Fin 2048) :
    outAt X W sx sw c (ValueIdx.ix2 r q) = quarterV X W sx sw (decide (1024 ≤ q.val)) ⟨r.val / 128, by omega⟩ c
      (ValueIdx.ix2 ⟨r.val % 128, by omega⟩ ⟨q.val % 1024, by omega⟩) := by
  unfold outAt
  refine congrArg (quarterV X W sx sw (decide (1024 ≤ q.val)) ⟨r.val / 128, by omega⟩ c) (funext fun k => ?_)
  match k with
  | 0 => rfl
  | 1 => rfl

/-- The columns of `x` that device `p` holds, as columns of the whole. -/
theorem block_x (h : ∀ p, X p = Layout.block ⟨2, ![4096, 256]⟩ ⟨2, ![4096, 4096]⟩ 1 16 p x) (p : Dev nD) (r : Fin 4096) (k : Fin 256) :
    X p (ValueIdx.ix2 r k) = x (ValueIdx.ix2 r ⟨p.val * 256 + k.val, by have := p.isLt; change p.val < 16 at this; omega⟩) := by
  rw [h p, Layout.block_apply]
  refine congrArg x (funext fun e => ?_)
  match e with
  | 0 => rfl
  | 1 => rfl

/-- The rows of `w` that device `p` holds, as rows of the whole. -/
theorem block_w (h : ∀ p, W p = Layout.block ⟨2, ![256, 2048]⟩ ⟨2, ![4096, 2048]⟩ 0 16 p w) (p : Dev nD) (k : Fin 256) (q : Fin 2048) :
    W p (ValueIdx.ix2 k q) = w (ValueIdx.ix2 ⟨p.val * 256 + k.val, by have := p.isLt; change p.val < 16 at this; omega⟩ q) := by
  rw [h p, Layout.block_apply]
  refine congrArg w (funext fun e => ?_)
  match e with
  | 0 => rfl
  | 1 => rfl

/-- The place of an element inside its quarter leads back to the element. -/
theorem row_back (c r : ℕ) : 256 * c + (128 * (r / 128) + r % 128) = c * 256 + r := by omega
theorem col_back (q : ℕ) (h : q < 2048) : (bif decide (1024 ≤ q) then 1024 else 0) + q % 1024 = q := by
  by_cases hq : 1024 ≤ q
  · rw [decide_eq_true hq, cond_true]; omega
  · rw [decide_eq_false hq, cond_false]; omega

/-- A device's result is its rows of the activation of the whole product. -/
theorem outAt_eq (hX : ∀ p, X p = Layout.block ⟨2, ![4096, 256]⟩ ⟨2, ![4096, 4096]⟩ 1 16 p x)
    (hW : ∀ p, W p = Layout.block ⟨2, ![256, 2048]⟩ ⟨2, ![4096, 2048]⟩ 0 16 p w) (c : Dev nD) (ha : sx c = a) (hb : sw c = b) :
    outAt X W sx sw c = Layout.block ⟨2, ![256, 2048]⟩ ⟨2, ![4096, 2048]⟩ 0 16 c (Cert.ReferenceIdeal.Gen.k0_pay1 x w a b) := by
  funext i
  obtain ⟨r, q, rfl⟩ : ∃ (r : Fin 256) (q : Fin 2048), i = ValueIdx.ix2 r q := ⟨i 0, i 1, ValueIdx.eq_ix2 i⟩
  have hc : c.val < 16 := c.isLt
  have hi : (by decide : Layout.Tiles ⟨2, ![256, 2048]⟩ ⟨2, ![4096, 2048]⟩ 0 16).idx c (ValueIdx.ix2 r q)
      = ValueIdx.ix2 ⟨c.val * 256 + r.val, by omega⟩ q := by
    funext e
    match e with
    | 0 => rfl
    | 1 => rfl
  rw [Layout.block_apply, hi, Cert.ReferenceIdeal.Whole.pay_apply, outAt_apply, quarterV_apply, ha, hb]
  refine congrArg (actOf (Scalar.mulf a b)) (Finset.sum_congr rfl fun p _ => ?_)
  rw [rowsPart_apply]
  refine Finset.sum_congr rfl fun k _ => ?_
  rw [block_x X x hX, block_w W w hW]
  simp only [row_back, col_back q.val q.isLt]

end Cert.KernelIdeal.RingRS

end
-- ==== Proof.lean ====
/-
# The claims

The three frames are the runs of the three programs with the values dropped; the algebraic claim sets the kernel's run
beside the reference's.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Frame
public import proofs.«01_k».proof.Proof.Gen.ReferenceIdeal.Value
public import proofs.«01_k».proof.Proof.Value.Equation
public import Idealize.ShloMosaic.Adequacy
public import Idealize.ShloMosaic.Init

@[expose] public section

noncomputable section

namespace Cert.Proof

open Idealize.ShloMosaic Idealize.SL.Sem

/-- The kernel ends, its arguments unchanged and its semaphores at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.RingRS.run_values m g)

/-- So does the kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.RingRS.run_values m g)

/-- A device's result is its rows of the reference's array, when the arguments are cut as the claim says. -/
theorem algebraic : Cert.algebraic_KernelIdeal_ReferenceIdeal (hKernelIdeal := Cert.KernelIdeal.Gen.facts)
    (hReferenceIdeal := Cert.ReferenceIdeal.Gen.facts) := fun m g m' g' _ h => by
  refine ⟨Cert.ReferenceIdeal.Whole.refOf m' 0, ?_, ?_⟩
  · refine (θ_run Cert.KernelIdeal.defs _ _).mono (fun _ hr c => ⟨(hr.1 c).1.trans ?_, (hr.1 c).2⟩) (Cert.KernelIdeal.RingRS.run_values m g)
    refine Cert.KernelIdeal.RingRS.outAt_eq _ _ _ _ _ _ _ _ (fun p => ?_) (fun p => ?_) c ?_ ?_
    · exact (Cert.KernelIdeal.RingRS.xIn_eq m p).trans (h p).1
    · exact (Cert.KernelIdeal.RingRS.wIn_eq m p).trans (h p).2.1
    · exact congrArg Cert.ReferenceIdeal.Whole.one ((Cert.KernelIdeal.RingRS.aIn_eq m c).trans (h c).2.2.1)
    · exact congrArg Cert.ReferenceIdeal.Whole.one ((Cert.KernelIdeal.RingRS.bIn_eq m c).trans (h c).2.2.2)
  · exact (θ_run Cert.ReferenceIdeal.defs _ _).mono (fun _ hr => ⟨(hr 0).1.trans (Cert.ReferenceIdeal.Whole.final m' 0), (hr 0).2⟩)
      (Cert.ReferenceIdeal.Value.run_blocks m' g')

theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, algebraic⟩

end Cert.Proof

end
